-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S_ : Shape := ⟨0, ![]⟩
abbrev S256x8192 : Shape := ⟨2, ![256, 8192]⟩
abbrev S256x2048 : Shape := ⟨2, ![256, 2048]⟩
abbrev S2048x2048 : Shape := ⟨2, ![2048, 2048]⟩
abbrev S2x256x1024 : Shape := ⟨3, ![2, 256, 1024]⟩
abbrev S4x2x256x1024 : Shape := ⟨4, ![4, 2, 256, 1024]⟩
abbrev S3x2x256x1024 : Shape := ⟨4, ![3, 2, 256, 1024]⟩
abbrev S2 : Shape := ⟨1, ![2]⟩
abbrev S4x2 : Shape := ⟨2, ![4, 2]⟩
abbrev S3x2 : Shape := ⟨2, ![3, 2]⟩
abbrev S256x1024 : Shape := ⟨2, ![256, 1024]⟩
abbrev S1x256x1024 : Shape := ⟨3, ![1, 256, 1024]⟩
abbrev S1 : Shape := ⟨1, ![1]⟩
abbrev S1x1 : Shape := ⟨2, ![1, 1]⟩
abbrev S1x1x256x1024 : Shape := ⟨4, ![1, 1, 256, 1024]⟩

abbrev nBuf : Space → Nat
  | .hbm => 30
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S256x8192, .bf16⟩
  | .hbm, ⟨28, _⟩ => ⟨S256x2048, .f32⟩
  | .hbm, ⟨29, _⟩ => ⟨S2048x2048, .f32⟩
  | .local _ .vmem, ⟨0, _⟩ => ⟨S256x2048, .f32⟩
  | .local _ .vmem, ⟨1, _⟩ => ⟨S2048x2048, .f32⟩
  | .local _ .vmem, ⟨2, _⟩ => ⟨S2x256x1024, .bf16⟩
  | .local _ .vmem, ⟨3, _⟩ => ⟨S2x256x1024, .bf16⟩
  | .local _ .vmem, ⟨4, _⟩ => ⟨S2x256x1024, .bf16⟩
  | .local _ .vmem, ⟨5, _⟩ => ⟨S4x2x256x1024, .bf16⟩
  | .local _ .vmem, ⟨6, _⟩ => ⟨S3x2x256x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_c_7 : Ref sig .tc := ⟨.hbm, 23, rfl⟩
abbrev main_v14 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_24 : BitVec 32 := 8#32
  let v46 : BitVec 32 := Scalar.muli v40 c8_i32_24
  let v47 : BitVec 32 := Scalar.addi c0_i32_25 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v48 : BitVec 32 := Scalar.muli v5 c4_i32_26
  let v49 : BitVec 32 := Scalar.addi v47 v48
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_27 : BitVec 32 := 1#32
  let v50 : BitVec 32 := Scalar.muli v43 c1_i32_27
  let v51 : BitVec 32 := Scalar.addi v49 v50
  v51.toNat
def k0_dev2 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_29 : BitVec 32 := 8#32
  let v52 : BitVec 32 := Scalar.muli v24 c8_i32_29
  let v53 : BitVec 32 := Scalar.addi c0_i32_30 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v54 : BitVec 32 := Scalar.muli v5 c4_i32_31
  let v55 : BitVec 32 := Scalar.addi v53 v54
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_32 : BitVec 32 := 1#32
  let v56 : BitVec 32 := Scalar.muli v27 c1_i32_32
  let v57 : BitVec 32 := Scalar.addi v55 v56
  v57.toNat
def k0_dev3 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v58 : BitVec 32 := Scalar.muli v2 c8_i32_34
  let v59 : BitVec 32 := Scalar.addi c0_i32_35 v58
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_22 v5
  let c4_i32_36 : BitVec 32 := 4#32
  let v60 : BitVec 32 := Scalar.muli v44 c4_i32_36
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v62 : BitVec 32 := Scalar.muli v8 c1_i32_37
  let v63 : BitVec 32 := Scalar.addi v61 v62
  v63.toNat
def k0_dev4 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v70 : BitVec 32 := Scalar.muli v2 c8_i32_46
  let v71 : BitVec 32 := Scalar.addi c0_i32_47 v70
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_22 v5
  let c4_i32_48 : BitVec 32 := 4#32
  let v72 : BitVec 32 := Scalar.muli v44 c4_i32_48
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v74 : BitVec 32 := Scalar.muli v8 c1_i32_49
  let v75 : BitVec 32 := Scalar.addi v73 v74
  v75.toNat
def k0_dev5 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v90 : BitVec 32 := Scalar.muli v2 c8_i32_61
  let v91 : BitVec 32 := Scalar.addi c0_i32_62 v90
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_22 v5
  let c4_i32_63 : BitVec 32 := 4#32
  let v92 : BitVec 32 := Scalar.muli v44 c4_i32_63
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v94 : BitVec 32 := Scalar.muli v8 c1_i32_64
  let v95 : BitVec 32 := Scalar.addi v93 v94
  v95.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c256_i32 : BitVec 32 := 256#32
  let v122 : BitVec 32 := Scalar.muli v11 c256_i32
  let v123 : Index := Scalar.indexCast v122
  let c0_86 : Index := 0#32
  ![v123.toNat, 0]
def k0_dev6 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_97 : BitVec 32 := 8#32
  let v129 : BitVec 32 := Scalar.muli v24 c8_i32_97
  let v130 : BitVec 32 := Scalar.addi c0_i32_98 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_99 : BitVec 32 := 4#32
  let v131 : BitVec 32 := Scalar.muli v5 c4_i32_99
  let v132 : BitVec 32 := Scalar.addi v130 v131
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_100 : BitVec 32 := 1#32
  let v133 : BitVec 32 := Scalar.muli v27 c1_i32_100
  let v134 : BitVec 32 := Scalar.addi v132 v133
  v134.toNat
def k0_dev7 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_112 : BitVec 32 := 8#32
  let v143 : BitVec 32 := Scalar.muli v40 c8_i32_112
  let v144 : BitVec 32 := Scalar.addi c0_i32_113 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v145 : BitVec 32 := Scalar.muli v5 c4_i32_114
  let v146 : BitVec 32 := Scalar.addi v144 v145
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_115 : BitVec 32 := 1#32
  let v147 : BitVec 32 := Scalar.muli v43 c1_i32_115
  let v148 : BitVec 32 := Scalar.addi v146 v147
  v148.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c256_i32_137 : BitVec 32 := 256#32
  let v175 : BitVec 32 := Scalar.muli v11 c256_i32_137
  let v176 : Index := Scalar.indexCast v175
  let c1024_138 : Index := 1024#32
  ![v176.toNat, 1024]
def k0_dev8 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_149 : BitVec 32 := 8#32
  let v182 : BitVec 32 := Scalar.muli v24 c8_i32_149
  let v183 : BitVec 32 := Scalar.addi c0_i32_150 v182
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v184 : BitVec 32 := Scalar.muli v5 c4_i32_151
  let v185 : BitVec 32 := Scalar.addi v183 v184
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_152 : BitVec 32 := 1#32
  let v186 : BitVec 32 := Scalar.muli v27 c1_i32_152
  let v187 : BitVec 32 := Scalar.addi v185 v186
  v187.toNat
def k0_dev9 (d0 : Dev nD) : Nat :=
  let c0_i32_165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_164 : BitVec 32 := 8#32
  let v196 : BitVec 32 := Scalar.muli v40 c8_i32_164
  let v197 : BitVec 32 := Scalar.addi c0_i32_165 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v198 : BitVec 32 := Scalar.muli v5 c4_i32_166
  let v199 : BitVec 32 := Scalar.addi v197 v198
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_167 : BitVec 32 := 1#32
  let v200 : BitVec 32 := Scalar.muli v43 c1_i32_167
  let v201 : BitVec 32 := Scalar.addi v199 v200
  v201.toNat
def k0_dev10 (d0 : Dev nD) : Nat :=
  let c0_i32_212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_211 : BitVec 32 := 8#32
  let v246 : BitVec 32 := Scalar.muli v24 c8_i32_211
  let v247 : BitVec 32 := Scalar.addi c0_i32_212 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_213 : BitVec 32 := 4#32
  let v248 : BitVec 32 := Scalar.muli v5 c4_i32_213
  let v249 : BitVec 32 := Scalar.addi v247 v248
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_214 : BitVec 32 := 1#32
  let v250 : BitVec 32 := Scalar.muli v27 c1_i32_214
  let v251 : BitVec 32 := Scalar.addi v249 v250
  v251.toNat
def k0_off3 (d0 : Dev nD) (c0_i32_173 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_172 : BitVec 32 := 1#32
  let v210 : BitVec 32 := Scalar.subi v11 c1_i32_172
  let v211 : BitVec 32 := Scalar.subi v210 c0_i32_173
  let c8_i32_174 : BitVec 32 := 8#32
  let c0_i32_175 : BitVec 32 := 0#32
  let v212 : BitVec 1 := Scalar.cmpi .eq c8_i32_174 c0_i32_175
  let c1_i32_176 : BitVec 32 := 1#32
  let v213 : BitVec 32 := Scalar.select v212 c1_i32_176 c8_i32_174
  let v214 : BitVec 32 := Scalar.remsi v211 v213
  let c0_i32_178 : BitVec 32 := 0#32
  let v216 : BitVec 1 := Scalar.cmpi .slt v214 c0_i32_178
  let c0_i32_179 : BitVec 32 := 0#32
  let v217 : BitVec 1 := Scalar.cmpi .slt v213 c0_i32_179
  let v218 : BitVec 1 := Scalar.xori v216 v217
  let c0_i32_177 : BitVec 32 := 0#32
  let v215 : BitVec 1 := Scalar.cmpi .ne v214 c0_i32_177
  let v219 : BitVec 1 := Scalar.andi v218 v215
  let v220 : BitVec 32 := Scalar.addi v214 v213
  let v221 : BitVec 32 := Scalar.select v219 v220 v214
  let c256_i32_223 : BitVec 32 := 256#32
  let v263 : BitVec 32 := Scalar.muli v221 c256_i32_223
  let v264 : Index := Scalar.indexCast v263
  let c0_224 : Index := 0#32
  ![v264.toNat, 0]
def k0_dev11 (d0 : Dev nD) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_248 : BitVec 32 := 8#32
  let v278 : BitVec 32 := Scalar.muli v40 c8_i32_248
  let v279 : BitVec 32 := Scalar.addi c0_i32_249 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v280 : BitVec 32 := Scalar.muli v5 c4_i32_250
  let v281 : BitVec 32 := Scalar.addi v279 v280
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_251 : BitVec 32 := 1#32
  let v282 : BitVec 32 := Scalar.muli v43 c1_i32_251
  let v283 : BitVec 32 := Scalar.addi v281 v282
  v283.toNat
def k0_off4 (d0 : Dev nD) (c0_i32_181 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_180 : BitVec 32 := 1#32
  let v222 : BitVec 32 := Scalar.addi v11 c1_i32_180
  let v223 : BitVec 32 := Scalar.addi v222 c0_i32_181
  let c8_i32_182 : BitVec 32 := 8#32
  let c0_i32_183 : BitVec 32 := 0#32
  let v224 : BitVec 1 := Scalar.cmpi .eq c8_i32_182 c0_i32_183
  let c1_i32_184 : BitVec 32 := 1#32
  let v225 : BitVec 32 := Scalar.select v224 c1_i32_184 c8_i32_182
  let v226 : BitVec 32 := Scalar.remsi v223 v225
  let c0_i32_186 : BitVec 32 := 0#32
  let v228 : BitVec 1 := Scalar.cmpi .slt v226 c0_i32_186
  let c0_i32_187 : BitVec 32 := 0#32
  let v229 : BitVec 1 := Scalar.cmpi .slt v225 c0_i32_187
  let v230 : BitVec 1 := Scalar.xori v228 v229
  let c0_i32_185 : BitVec 32 := 0#32
  let v227 : BitVec 1 := Scalar.cmpi .ne v226 c0_i32_185
  let v231 : BitVec 1 := Scalar.andi v230 v227
  let v232 : BitVec 32 := Scalar.addi v226 v225
  let v233 : BitVec 32 := Scalar.select v231 v232 v226
  let c256_i32_260 : BitVec 32 := 256#32
  let v295 : BitVec 32 := Scalar.muli v233 c256_i32_260
  let v296 : Index := Scalar.indexCast v295
  let c0_261 : Index := 0#32
  ![v296.toNat, 0]
def k0_dev12 (d0 : Dev nD) : Nat :=
  let c0_i32_286 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_285 : BitVec 32 := 8#32
  let v310 : BitVec 32 := Scalar.muli v24 c8_i32_285
  let v311 : BitVec 32 := Scalar.addi c0_i32_286 v310
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_287 : BitVec 32 := 4#32
  let v312 : BitVec 32 := Scalar.muli v5 c4_i32_287
  let v313 : BitVec 32 := Scalar.addi v311 v312
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_288 : BitVec 32 := 1#32
  let v314 : BitVec 32 := Scalar.muli v27 c1_i32_288
  let v315 : BitVec 32 := Scalar.addi v313 v314
  v315.toNat
def k0_off5 (d0 : Dev nD) (c0_i32_173 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_172 : BitVec 32 := 1#32
  let v210 : BitVec 32 := Scalar.subi v11 c1_i32_172
  let v211 : BitVec 32 := Scalar.subi v210 c0_i32_173
  let c8_i32_174 : BitVec 32 := 8#32
  let c0_i32_175 : BitVec 32 := 0#32
  let v212 : BitVec 1 := Scalar.cmpi .eq c8_i32_174 c0_i32_175
  let c1_i32_176 : BitVec 32 := 1#32
  let v213 : BitVec 32 := Scalar.select v212 c1_i32_176 c8_i32_174
  let v214 : BitVec 32 := Scalar.remsi v211 v213
  let c0_i32_178 : BitVec 32 := 0#32
  let v216 : BitVec 1 := Scalar.cmpi .slt v214 c0_i32_178
  let c0_i32_179 : BitVec 32 := 0#32
  let v217 : BitVec 1 := Scalar.cmpi .slt v213 c0_i32_179
  let v218 : BitVec 1 := Scalar.xori v216 v217
  let c0_i32_177 : BitVec 32 := 0#32
  let v215 : BitVec 1 := Scalar.cmpi .ne v214 c0_i32_177
  let v219 : BitVec 1 := Scalar.andi v218 v215
  let v220 : BitVec 32 := Scalar.addi v214 v213
  let v221 : BitVec 32 := Scalar.select v219 v220 v214
  let c256_i32_297 : BitVec 32 := 256#32
  let v327 : BitVec 32 := Scalar.muli v221 c256_i32_297
  let v328 : Index := Scalar.indexCast v327
  let c1024_298 : Index := 1024#32
  ![v328.toNat, 1024]
def k0_dev13 (d0 : Dev nD) : Nat :=
  let c0_i32_323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_322 : BitVec 32 := 8#32
  let v342 : BitVec 32 := Scalar.muli v40 c8_i32_322
  let v343 : BitVec 32 := Scalar.addi c0_i32_323 v342
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_324 : BitVec 32 := 4#32
  let v344 : BitVec 32 := Scalar.muli v5 c4_i32_324
  let v345 : BitVec 32 := Scalar.addi v343 v344
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_325 : BitVec 32 := 1#32
  let v346 : BitVec 32 := Scalar.muli v43 c1_i32_325
  let v347 : BitVec 32 := Scalar.addi v345 v346
  v347.toNat
def k0_off6 (d0 : Dev nD) (c0_i32_181 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_180 : BitVec 32 := 1#32
  let v222 : BitVec 32 := Scalar.addi v11 c1_i32_180
  let v223 : BitVec 32 := Scalar.addi v222 c0_i32_181
  let c8_i32_182 : BitVec 32 := 8#32
  let c0_i32_183 : BitVec 32 := 0#32
  let v224 : BitVec 1 := Scalar.cmpi .eq c8_i32_182 c0_i32_183
  let c1_i32_184 : BitVec 32 := 1#32
  let v225 : BitVec 32 := Scalar.select v224 c1_i32_184 c8_i32_182
  let v226 : BitVec 32 := Scalar.remsi v223 v225
  let c0_i32_186 : BitVec 32 := 0#32
  let v228 : BitVec 1 := Scalar.cmpi .slt v226 c0_i32_186
  let c0_i32_187 : BitVec 32 := 0#32
  let v229 : BitVec 1 := Scalar.cmpi .slt v225 c0_i32_187
  let v230 : BitVec 1 := Scalar.xori v228 v229
  let c0_i32_185 : BitVec 32 := 0#32
  let v227 : BitVec 1 := Scalar.cmpi .ne v226 c0_i32_185
  let v231 : BitVec 1 := Scalar.andi v230 v227
  let v232 : BitVec 32 := Scalar.addi v226 v225
  let v233 : BitVec 32 := Scalar.select v231 v232 v226
  let c256_i32_334 : BitVec 32 := 256#32
  let v359 : BitVec 32 := Scalar.muli v233 c256_i32_334
  let v360 : Index := Scalar.indexCast v359
  let c1024_335 : Index := 1024#32
  ![v360.toNat, 1024]
def k0_dev14 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_376 : BitVec 32 := 8#32
  let v398 : BitVec 32 := Scalar.muli v24 c8_i32_376
  let v399 : BitVec 32 := Scalar.addi c0_i32_377 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_378 : BitVec 32 := 4#32
  let v400 : BitVec 32 := Scalar.muli v5 c4_i32_378
  let v401 : BitVec 32 := Scalar.addi v399 v400
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_379 : BitVec 32 := 1#32
  let v402 : BitVec 32 := Scalar.muli v27 c1_i32_379
  let v403 : BitVec 32 := Scalar.addi v401 v402
  v403.toNat
def k0_dev15 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_414 : BitVec 32 := 8#32
  let v430 : BitVec 32 := Scalar.muli v40 c8_i32_414
  let v431 : BitVec 32 := Scalar.addi c0_i32_415 v430
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_416 : BitVec 32 := 4#32
  let v432 : BitVec 32 := Scalar.muli v5 c4_i32_416
  let v433 : BitVec 32 := Scalar.addi v431 v432
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_417 : BitVec 32 := 1#32
  let v434 : BitVec 32 := Scalar.muli v43 c1_i32_417
  let v435 : BitVec 32 := Scalar.addi v433 v434
  v435.toNat
def k0_dev16 (d0 : Dev nD) : Nat :=
  let c0_i32_453 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_452 : BitVec 32 := 8#32
  let v462 : BitVec 32 := Scalar.muli v24 c8_i32_452
  let v463 : BitVec 32 := Scalar.addi c0_i32_453 v462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_454 : BitVec 32 := 4#32
  let v464 : BitVec 32 := Scalar.muli v5 c4_i32_454
  let v465 : BitVec 32 := Scalar.addi v463 v464
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_455 : BitVec 32 := 1#32
  let v466 : BitVec 32 := Scalar.muli v27 c1_i32_455
  let v467 : BitVec 32 := Scalar.addi v465 v466
  v467.toNat
def k0_dev17 (d0 : Dev nD) : Nat :=
  let c0_i32_491 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_490 : BitVec 32 := 8#32
  let v494 : BitVec 32 := Scalar.muli v40 c8_i32_490
  let v495 : BitVec 32 := Scalar.addi c0_i32_491 v494
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_492 : BitVec 32 := 4#32
  let v496 : BitVec 32 := Scalar.muli v5 c4_i32_492
  let v497 : BitVec 32 := Scalar.addi v495 v496
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_493 : BitVec 32 := 1#32
  let v498 : BitVec 32 := Scalar.muli v43 c1_i32_493
  let v499 : BitVec 32 := Scalar.addi v497 v498
  v499.toNat
def k0_dev18 (d0 : Dev nD) : Nat :=
  let c0_i32_545 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_544 : BitVec 32 := 8#32
  let v550 : BitVec 32 := Scalar.muli v24 c8_i32_544
  let v551 : BitVec 32 := Scalar.addi c0_i32_545 v550
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_546 : BitVec 32 := 4#32
  let v552 : BitVec 32 := Scalar.muli v5 c4_i32_546
  let v553 : BitVec 32 := Scalar.addi v551 v552
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_547 : BitVec 32 := 1#32
  let v554 : BitVec 32 := Scalar.muli v27 c1_i32_547
  let v555 : BitVec 32 := Scalar.addi v553 v554
  v555.toNat
def k0_dev19 (d0 : Dev nD) : Nat :=
  let c0_i32_604 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_603 : BitVec 32 := 8#32
  let v600 : BitVec 32 := Scalar.muli v24 c8_i32_603
  let v601 : BitVec 32 := Scalar.addi c0_i32_604 v600
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_605 : BitVec 32 := 4#32
  let v602 : BitVec 32 := Scalar.muli v5 c4_i32_605
  let v603 : BitVec 32 := Scalar.addi v601 v602
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_606 : BitVec 32 := 1#32
  let v604 : BitVec 32 := Scalar.muli v27 c1_i32_606
  let v605 : BitVec 32 := Scalar.addi v603 v604
  v605.toNat
def k0_dev20 (d0 : Dev nD) : Nat :=
  let c0_i32_888_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_12 : BitVec 32 := 1#32
  let v28 : BitVec 32 := Scalar.subi v11 c1_i32_12
  let c8_i32_13 : BitVec 32 := 8#32
  let c0_i32_14 : BitVec 32 := 0#32
  let v29 : BitVec 1 := Scalar.cmpi .eq c8_i32_13 c0_i32_14
  let c1_i32_15 : BitVec 32 := 1#32
  let v30 : BitVec 32 := Scalar.select v29 c1_i32_15 c8_i32_13
  let v31 : BitVec 32 := Scalar.remsi v28 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c4_i32_19 : BitVec 32 := 4#32
  let v39 : BitVec 1 := Scalar.cmpi .sge v38 c4_i32_19
  let v40 : BitVec 32 := Scalar.extui v39
  let c8_i32_887_r0 : BitVec 32 := 8#32
  let v783_r0 : BitVec 32 := Scalar.muli v40 c8_i32_887_r0
  let v784_r0 : BitVec 32 := Scalar.addi c0_i32_888_r0 v783_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_889_r0 : BitVec 32 := 4#32
  let v785_r0 : BitVec 32 := Scalar.muli v5 c4_i32_889_r0
  let v786_r0 : BitVec 32 := Scalar.addi v784_r0 v785_r0
  let c4_i32_20 : BitVec 32 := 4#32
  let v41 : BitVec 1 := Scalar.cmpi .slt v38 c4_i32_20
  let c7_i32_21 : BitVec 32 := 7#32
  let v42 : BitVec 32 := Scalar.subi c7_i32_21 v38
  let v43 : BitVec 32 := Scalar.select v41 v38 v42
  let c1_i32_890_r0 : BitVec 32 := 1#32
  let v787_r0 : BitVec 32 := Scalar.muli v43 c1_i32_890_r0
  let v788_r0 : BitVec 32 := Scalar.addi v786_r0 v787_r0
  v788_r0.toNat
def k0_dev21 (d0 : Dev nD) : Nat :=
  let c0_i32_893_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let v24 : BitVec 32 := Scalar.extui v23
  let c8_i32_892_r0 : BitVec 32 := 8#32
  let v789_r0 : BitVec 32 := Scalar.muli v24 c8_i32_892_r0
  let v790_r0 : BitVec 32 := Scalar.addi c0_i32_893_r0 v789_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_894_r0 : BitVec 32 := 4#32
  let v791_r0 : BitVec 32 := Scalar.muli v5 c4_i32_894_r0
  let v792_r0 : BitVec 32 := Scalar.addi v790_r0 v791_r0
  let c4_i32_10 : BitVec 32 := 4#32
  let v25 : BitVec 1 := Scalar.cmpi .slt v22 c4_i32_10
  let c7_i32_11 : BitVec 32 := 7#32
  let v26 : BitVec 32 := Scalar.subi c7_i32_11 v22
  let v27 : BitVec 32 := Scalar.select v25 v22 v26
  let c1_i32_895_r0 : BitVec 32 := 1#32
  let v793_r0 : BitVec 32 := Scalar.muli v27 c1_i32_895_r0
  let v794_r0 : BitVec 32 := Scalar.addi v792_r0 v793_r0
  v794_r0.toNat
def k0_dev22 (d0 : Dev nD) : Nat :=
  let c0_i32_898_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_897_r0 : BitVec 32 := 8#32
  let v795_r0 : BitVec 32 := Scalar.muli v2 c8_i32_897_r0
  let v796_r0 : BitVec 32 := Scalar.addi c0_i32_898_r0 v795_r0
  let c1_i32_22 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_22 v5
  let c4_i32_899_r0 : BitVec 32 := 4#32
  let v797_r0 : BitVec 32 := Scalar.muli v44 c4_i32_899_r0
  let v798_r0 : BitVec 32 := Scalar.addi v796_r0 v797_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_900_r0 : BitVec 32 := 1#32
  let v799_r0 : BitVec 32 := Scalar.muli v8 c1_i32_900_r0
  let v800_r0 : BitVec 32 := Scalar.addi v798_r0 v799_r0
  v800_r0.toNat
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S2048x16384, .bf16⟩
  | .hbm, ⟨2, _⟩ => ⟨S16384x2048, .bf16⟩
  | .hbm, ⟨3, _⟩ => ⟨S2048x2048, .f32⟩
  | .hbm, ⟨4, _⟩ => ⟨S2048x2048, .bf16⟩
  | .hbm, ⟨5, _⟩ => ⟨S2048x2048, .f32⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Mesh.lean ====
/-
  The mesh as the kernel uses it: sixteen devices, two rings of eight. Device `8·x + 4·y + z` has ring position `z` when
  `x = 0` and `7 − z` when `x = 1`; its ring is the eight devices of its `y`; its partner is the device with the other `y`
  at the same ring position. The printed device numbers and the printed row and column offsets, in these terms.
-/
module

public import proofs.«01_k».proof.Proof.Gen.KernelIdeal

@[expose] public section

namespace Cert.KernelIdeal.Ring

open Cert.KernelIdeal Cert.KernelIdeal.Gen
open Idealize.ShloMosaic

/-- The device's position on its ring. -/
def pos (c : Dev nD) : ℕ := if c.val < 8 then c.val % 4 else 7 - c.val % 4
/-- Which of the two rings the device is on. -/
def side (c : Dev nD) : ℕ := c.val / 4 % 2
/-- The device at ring position `p % 8` of ring `y % 2`. -/
def at' (p y : ℕ) : Dev nD :=
  ⟨if p % 8 < 4 then y % 2 * 4 + p % 8 else 8 + y % 2 * 4 + (7 - p % 8), by unfold nD; split <;> omega⟩

/-- The right neighbour on the ring. -/
def nxt (c : Dev nD) : Dev nD := at' (pos c + 1) (side c)
/-- The left neighbour on the ring. -/
def prv (c : Dev nD) : Dev nD := at' (pos c + 7) (side c)
/-- The partner on the other ring. -/
def oth (c : Dev nD) : Dev nD := at' (pos c) (side c + 1)

/-- A ring position is less than eight -/
theorem pos_lt (c : Dev nD) : pos c < 8 := by revert c; decide
theorem side_lt (c : Dev nD) : side c < 2 := Nat.mod_lt _ (by decide)
theorem nxt_prv (c : Dev nD) : nxt (prv c) = c := by revert c; decide
theorem prv_nxt (c : Dev nD) : prv (nxt c) = c := by revert c; decide
theorem oth_oth (c : Dev nD) : oth (oth c) = c := by revert c; decide
theorem at_pos_side (c : Dev nD) : at' (pos c) (side c) = c := by revert c; decide
theorem pos_oth (c : Dev nD) : pos (oth c) = pos c := by revert c; decide
theorem side_oth (c : Dev nD) : side (oth c) = 1 - side c := by revert c; decide

/-- One step left from a device found from `c` by its distance is one more to the left of `c`; likewise to the right. -/
theorem prv_iter (c : Dev nD) (h : Fin 8) : prv^[h.val] c = at' (pos c + (8 - h.val)) (side c) := by revert c h; decide
theorem nxt_iter (c : Dev nD) (h : Fin 8) : nxt^[h.val] c = at' (pos c + h.val) (side c) := by revert c h; decide

/-- The printed device numbers are the neighbours'. -/
theorem dev1_eq (c : Dev nD) : k0_dev1 c = (prv c).val := by revert c; decide +kernel
theorem dev2_eq (c : Dev nD) : k0_dev2 c = (nxt c).val := by revert c; decide +kernel
theorem dev3_eq (c : Dev nD) : k0_dev3 c = (oth c).val := by revert c; decide +kernel
theorem dev4_eq (c : Dev nD) : k0_dev4 c = (oth c).val := by revert c; decide +kernel
theorem dev5_eq (c : Dev nD) : k0_dev5 c = (oth c).val := by revert c; decide +kernel
theorem dev6_eq (c : Dev nD) : k0_dev6 c = (nxt c).val := by revert c; decide +kernel
theorem dev7_eq (c : Dev nD) : k0_dev7 c = (prv c).val := by revert c; decide +kernel
theorem dev8_eq (c : Dev nD) : k0_dev8 c = (nxt c).val := by revert c; decide +kernel
theorem dev9_eq (c : Dev nD) : k0_dev9 c = (prv c).val := by revert c; decide +kernel
theorem dev10_eq (c : Dev nD) : k0_dev10 c = (nxt c).val := by revert c; decide +kernel
theorem dev11_eq (c : Dev nD) : k0_dev11 c = (prv c).val := by revert c; decide +kernel
theorem dev12_eq (c : Dev nD) : k0_dev12 c = (nxt c).val := by revert c; decide +kernel
theorem dev13_eq (c : Dev nD) : k0_dev13 c = (prv c).val := by revert c; decide +kernel
theorem dev14_eq (c : Dev nD) : k0_dev14 c = (nxt c).val := by revert c; decide +kernel
theorem dev15_eq (c : Dev nD) : k0_dev15 c = (prv c).val := by revert c; decide +kernel
theorem dev16_eq (c : Dev nD) : k0_dev16 c = (nxt c).val := by revert c; decide +kernel
theorem dev17_eq (c : Dev nD) : k0_dev17 c = (prv c).val := by revert c; decide +kernel
theorem dev18_eq (c : Dev nD) : k0_dev18 c = (nxt c).val := by revert c; decide +kernel
theorem dev19_eq (c : Dev nD) : k0_dev19 c = (nxt c).val := by revert c; decide +kernel
theorem dev20_eq (c : Dev nD) : k0_dev20 c = (prv c).val := by revert c; decide +kernel
theorem dev21_eq (c : Dev nD) : k0_dev21 c = (nxt c).val := by revert c; decide +kernel
theorem dev22_eq (c : Dev nD) : k0_dev22 c = (oth c).val := by revert c; decide +kernel

/-- Row block `p % 8` and column chunk `ch` of the result, as offsets. -/
def offAt (p : ℕ) (ch : Fin 2) : Fin 2 → ℕ := ![p % 8 * 256, ch.val * 1024]

/-- The printed offsets are those of the blocks. -/
theorem off1_eq (c : Dev nD) : k0_off1 c = offAt (pos c) 0 := by revert c; decide +kernel
theorem off2_eq (c : Dev nD) : k0_off2 c = offAt (pos c) 1 := by revert c; decide +kernel
theorem off3_eq (c : Dev nD) (h : Fin 4) : k0_off3 c (BitVec.ofNat 32 h.val) = offAt (pos c + (7 - h.val)) 0 := by revert c h; decide +kernel
theorem off4_eq (c : Dev nD) (h : Fin 3) : k0_off4 c (BitVec.ofNat 32 h.val) = offAt (pos c + (1 + h.val)) 0 := by revert c h; decide +kernel
theorem off5_eq (c : Dev nD) (h : Fin 4) : k0_off5 c (BitVec.ofNat 32 h.val) = offAt (pos c + (7 - h.val)) 1 := by revert c h; decide +kernel
theorem off6_eq (c : Dev nD) (h : Fin 3) : k0_off6 c (BitVec.ofNat 32 h.val) = offAt (pos c + (1 + h.val)) 1 := by revert c h; decide +kernel

end Cert.KernelIdeal.Ring
-- ==== Proof.KernelIdeal.Sched.lean ====
/-
  The protocol of the kernel: its channels (one per remote copy a device starts), the memory and the semaphores of each,
  what every device holds and sends, and the schedule of rounds — per semaphore cell who pays it, how much, and what the
  payment hands over, contents included.
-/
module

public import proofs.«01_k».proof.Proof.KernelIdeal.Mesh
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Memref
public import Idealize.ShloMosaic.Lib.MemrefSat
public import Idealize.ShloMosaic.Lib.Pipeline.Regions
public import Idealize.ShloMosaic.Lib.Pipeline.RegionTalk
public import Idealize.ShloMosaic.Lib.Pipeline.Kit
public import Idealize.ShloMosaic.Lib.Pipeline.Value
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's records beside the protocol's, whose duties are named by numbers below three. -/
abbrev UU : Type := UR sig nD τ × URounds (GSem nD τ sig) (Fin 3)

local notation "𝕄" => MT nD τ sig Unit (Elt F) ℕ UU ℕ

/-- Where the pipeline's records live; -/
abbrev EP : Emb (UR sig nD τ) (MT nD τ sig Unit (Elt F) ℕ UU ℕ) := embL
/-- where the protocol's live. -/
abbrev ER : Emb (URounds (GSem nD τ sig) (Fin 3)) (MT nD τ sig Unit (Elt F) ℕ UU ℕ) := embR

/-! ## Channels -/

/-- The sixteen remote copies of a device: its partial product to its partner, chunk by chunk; the blocks it passes to its
    right neighbour (the hop, the chunk); the blocks it passes to its left neighbour. -/
inductive Ch
  | y (ch : Fin 2)
  | f (h : Fin 4) (ch : Fin 2)
  | b (h : Fin 3) (ch : Fin 2)
  deriving DecidableEq

abbrev allCh : List Ch :=
  [.y 0, .y 1, .f 0 0, .b 0 0, .f 0 1, .b 0 1, .f 1 0, .b 1 0, .f 1 1, .b 1 1, .f 2 0, .b 2 0, .f 2 1, .b 2 1, .f 3 0, .f 3 1]

/-- Every channel is listed. -/
theorem mem_allCh (k : Ch) : k ∈ allCh := by
  cases k with
  | y ch => revert ch; decide
  | f h ch => revert h ch; decide
  | b h ch => revert h ch; decide

instance : Fintype Ch := ⟨⟨allCh, by decide⟩, mem_allCh⟩

/-- The neighbour that signal number `d` of a device goes to: left, right, partner. -/
def nbr : Fin 3 → Dev nD → Dev nD
  | 0 => prv
  | 1 => nxt
  | 2 => oth
/-- The neighbour whose signal number `d` a device receives. -/
def inv : Fin 3 → Dev nD → Dev nD
  | 0 => nxt
  | 1 => prv
  | 2 => oth

/-- A neighbour's neighbour back -/
theorem nbr_inv (d : Fin 3) (c : Dev nD) : nbr d (inv d c) = c := by
  fin_cases d <;> first | exact prv_nxt c | exact nxt_prv c | exact oth_oth c
/-- is the device itself. -/
theorem inv_nbr (d : Fin 3) (c : Dev nD) : inv d (nbr d c) = c := by
  fin_cases d <;> first | exact prv_nxt c | exact nxt_prv c | exact oth_oth c

/-- The number of the signal by which a channel's receiver tells its sender that its buffer is free. -/
def dir : Ch → Fin 3
  | .y _ => 2
  | .f _ _ => 0
  | .b _ _ => 1

/-- The device a channel of `c` sends to, and the one that sends to `c` on it. -/
def tgt (k : Ch) (c : Dev nD) : Dev nD := inv (dir k) c
def org (k : Ch) (c : Dev nD) : Dev nD := nbr (dir k) c
theorem org_tgt (k : Ch) (c : Dev nD) : org k (tgt k c) = c := nbr_inv _ _
theorem tgt_org (k : Ch) (c : Dev nD) : tgt k (org k c) = c := inv_nbr _ _

/-! ## Memory -/

/-- The chunk lies in its buffer. -/
theorem inb3 (ch : Fin 2) : ∀ a, (![ch.val, 0, 0] : Fin 3 → ℕ) a + S1x256x1024.size a ≤ S2x256x1024.size a := by revert ch; decide
theorem inb4f (h : Fin 4) (ch : Fin 2) : ∀ a, (![h.val, ch.val, 0, 0] : Fin 4 → ℕ) a + S1x1x256x1024.size a ≤ S4x2x256x1024.size a := by revert h ch; decide
theorem inb4b (h : Fin 3) (ch : Fin 2) : ∀ a, (![h.val, ch.val, 0, 0] : Fin 4 → ℕ) a + S1x1x256x1024.size a ≤ S3x2x256x1024.size a := by revert h ch; decide
theorem inbP (ch : Fin 2) : ∀ a, (![0, ch.val * 1024] : Fin 2 → ℕ) a + S256x1024.size a ≤ S256x2048.size a := by revert ch; decide

/-- Chunk `ch` of a two-chunk buffer, as the rectangle and as the memref a copy names. -/
abbrev r3 (ch : Fin 2) : Rect S2x256x1024 := Rect.unit (s := S2x256x1024) ![ch.val, 0, 0] S1x256x1024.size (inb3 ch)
abbrev r4f (h : Fin 4) (ch : Fin 2) : Rect S4x2x256x1024 := Rect.unit (s := S4x2x256x1024) ![h.val, ch.val, 0, 0] S1x1x256x1024.size (inb4f h ch)
abbrev r4b (h : Fin 3) (ch : Fin 2) : Rect S3x2x256x1024 := Rect.unit (s := S3x2x256x1024) ![h.val, ch.val, 0, 0] S1x1x256x1024.size (inb4b h ch)
/-- Chunk `ch` of the partial product. -/
abbrev rP (ch : Fin 2) : Rect S256x2048 := Rect.unit (s := S256x2048) ![0, ch.val * 1024] S256x1024.size (inbP ch)

abbrev slot3 (M : Memref sig .tc .vmem S2x256x1024 .bf16) (ch : Fin 2) : Memref sig .tc .vmem S256x1024 .bf16 :=
  (M.slice (r3 ch) (fun _ => rfl)).squeeze S256x1024 squeezes_S1x256x1024_S256x1024
abbrev ysM (ch : Fin 2) := slot3 (Memref.whole cc0_scratch0) ch
abbrev yrM (ch : Fin 2) := slot3 (Memref.whole cc0_scratch1) ch
abbrev rbM (ch : Fin 2) := slot3 (Memref.whole cc0_scratch2) ch
abbrev fM (h : Fin 4) (ch : Fin 2) : Memref sig .tc .vmem S256x1024 .bf16 :=
  ((Memref.whole cc0_scratch3 : Memref sig .tc .vmem S4x2x256x1024 .bf16).slice (r4f h ch) (fun _ => rfl)).squeeze S256x1024 squeezes_S1x1x256x1024_S256x1024
abbrev bM (h : Fin 3) (ch : Fin 2) : Memref sig .tc .vmem S256x1024 .bf16 :=
  ((Memref.whole cc0_scratch4 : Memref sig .tc .vmem S3x2x256x1024 .bf16).slice (r4b h ch) (fun _ => rfl)).squeeze S256x1024 squeezes_S1x1x256x1024_S256x1024

/-- Where a channel's copy lands, on the receiver. -/
def dstM : Ch → Memref sig .tc .vmem S256x1024 .bf16
  | .y ch => yrM ch
  | .f h ch => fM h ch
  | .b h ch => bM h ch
/-- Where it is read from, on the sender: the first hop passes the reduced chunk, a later one what the hop before brought. -/
def srcM : Ch → Memref sig .tc .vmem S256x1024 .bf16
  | .y ch => ysM ch
  | .f 0 ch => rbM ch
  | .f ⟨h + 1, hh⟩ ch => fM ⟨h, by omega⟩ ch
  | .b 0 ch => rbM ch
  | .b ⟨h + 1, hh⟩ ch => bM ⟨h, by omega⟩ ch
/-- The share of the source lent to the copy: half, so that the sender can still read it; the reduced chunk goes out twice,
    half by half. -/
def qs : Ch → PosShare TreeShare
  | .b 0 _ => fullShare.right
  | _ => fullShare.left

/-- The semaphores of a channel: the sender's, the receiver's. -/
def sndS : Ch → DmaSem sig
  | .y ch => ⟨2 + ch.val, by have := ch.isLt; show _ < 34; omega⟩
  | .f h ch => ⟨6 + (2 * h.val + ch.val), by have := ch.isLt; have := h.isLt; show _ < 34; omega⟩
  | .b h ch => ⟨22 + (2 * h.val + ch.val), by have := ch.isLt; have := h.isLt; show _ < 34; omega⟩
/-- A channel's receive semaphore. -/
def rcvS : Ch → DmaSem sig
  | .y ch => ⟨4 + ch.val, by have := ch.isLt; show _ < 34; omega⟩
  | .f h ch => ⟨14 + (2 * h.val + ch.val), by have := ch.isLt; have := h.isLt; show _ < 34; omega⟩
  | .b h ch => ⟨28 + (2 * h.val + ch.val), by have := ch.isLt; have := h.isLt; show _ < 34; omega⟩

/-- The barrier's semaphore, and the one of the closing handshake. -/
abbrev barS : Sem sig := (SemArray.scalar (sig.barrier 0 rfl) : Sems sig S_).sem
abbrev exS : Sem sig := cc0_scoped0.sem

/-- The cells a device waits on in the kernel. -/
inductive Cell
  | bar
  | ex
  | snd (k : Ch)
  | rcv (k : Ch)
  deriving DecidableEq

abbrev allCells : List Cell := .bar :: .ex :: (allCh.map .snd ++ allCh.map .rcv)

/-- Every cell is listed. -/
theorem mem_allCells (x : Cell) : x ∈ allCells := by
  cases x with
  | bar => exact List.mem_cons_self
  | ex => exact List.mem_cons_of_mem _ List.mem_cons_self
  | snd k => exact List.mem_cons_of_mem _ (List.mem_cons_of_mem _ (List.mem_append_left _ (List.mem_map_of_mem (mem_allCh k))))
  | rcv k => exact List.mem_cons_of_mem _ (List.mem_cons_of_mem _ (List.mem_append_right _ (List.mem_map_of_mem (mem_allCh k))))

instance : Fintype Cell := ⟨⟨allCells, by decide⟩, mem_allCells⟩

/-- A cell's semaphore. -/
def semOf : Cell → SemLoc sig
  | .bar => .reg barS
  | .ex => .reg exS
  | .snd k => .dma (sndS k)
  | .rcv k => .dma (rcvS k)

/-- Different cells have different semaphores. -/
theorem semOf_inj : Function.Injective semOf := by
  have h : ∀ x ∈ allCells, ∀ y ∈ allCells, semOf x = semOf y → x = y := by decide
  exact fun x y => h x (mem_allCells x) y (mem_allCells y)

/-- A device's cell. -/
abbrev cell (c : Dev nD) (x : Cell) : GSem nD τ sig := ((c : Thread nD τ), semOf x)

/-- Which of them a semaphore is, if any. -/
def codeOf (s : SemLoc sig) : Option Cell := allCells.find? fun x => semOf x = s

/-- A cell is found again from its semaphore. -/
theorem codeOf_semOf (x : Cell) : codeOf (semOf x) = some x := by
  unfold codeOf
  have hs : (allCells.find? fun y => decide (semOf y = semOf x)).isSome := by
    rw [List.find?_isSome]
    exact ⟨x, mem_allCells x, by simp⟩
  obtain ⟨y, hy⟩ := Option.isSome_iff_exists.mp hs
  have := List.find?_some hy
  rw [hy, semOf_inj (of_decide_eq_true this)]

/-- What the copy of a chunk credits. -/
abbrev N : ℕ := (yrM 0).view.dmaCredit
theorem N_pos : 0 < N := View.dmaCredit_pos _ (by decide)

/-! ## Contents -/

variable (P : Dev nD → S256x2048.Idx → Elt F .f32)

/-- Chunk `ch` of a device's partial product; -/
def pch (c : Dev nD) (ch : Fin 2) : FVec F S256x1024 .f32 := fun j => P c ((rP ch).emb j)
/-- what it sends its partner; -/
def yv (c : Dev nD) (ch : Fin 2) : FVec F S256x1024 .bf16 := truncf .bf16 (pch P c ch) bitsLt_bf16_f32
/-- the sum of its own and its partner's; -/
def red (c : Dev nD) (ch : Fin 2) : FVec F S256x1024 .f32 := addf (pch P c ch) (extf .f32 (yv P (oth c) ch) bitsLt_bf16_f32)
/-- that sum as it travels round the ring. -/
def rb (c : Dev nD) (ch : Fin 2) : FVec F S256x1024 .bf16 := truncf .bf16 (red P c ch) bitsLt_bf16_f32

/-- What device `c` sends on a channel. -/
def val (k : Ch) (c : Dev nD) : FVec F S256x1024 .bf16 :=
  match k with
  | .y ch => yv P c ch
  | .f h ch => rb P (prv^[h.val] c) ch
  | .b h ch => rb P (nxt^[h.val] c) ch

/-- A memref's elements owned at some contents. -/
abbrev someAt (c : Dev nD) (M : Memref sig .tc .vmem S256x1024 .bf16) (q : PosShare TreeShare) : sProp 𝕄 :=
  ownsSat (c : Thread nD τ) M q fun _ => True

/-! ## The schedule -/

/-- What a device receives with its barrier signal number `d`: the buffers of the channels it sends to that neighbour on,
    and that the neighbour's cells are open. -/
def barPay (c : Dev nD) (d : Fin 3) : sProp 𝕄 :=
  iprop((bigSep (Finset.univ.filter fun k : Ch => dir k = d) fun k =>
      iprop(someAt (F := F) (inv d c) (dstM k) fullShare ∗ reached ER (cell (inv d c) (.rcv k)) 0))
    ∗ reached ER (cell (inv d c) .ex) 0)
/-- A channel's sender gets the lent share of the source back, its receiver the buffer with what was sent. -/
def sndPay (c : Dev nD) (k : Ch) : sProp 𝕄 := owns (c : Thread nD τ) (srcM k) (qs k) (val P k c)
def rcvPay (c : Dev nD) (k : Ch) : sProp 𝕄 := owns (c : Thread nD τ) (dstM k) fullShare (val P k (org k c))

/-- Who pays onto a cell, -/
def dutiesOf : Cell → Finset (Fin 3)
  | .bar => Finset.univ
  | .ex => Finset.univ
  | .snd _ => {0}
  | .rcv _ => {0}
/-- how much each, -/
def amountOf' : Cell → ℕ
  | .bar => 1
  | .ex => 1
  | .snd _ => N
  | .rcv _ => N
/-- and what each hands over. -/
def payOf (c : Dev nD) : Cell → Fin 3 → sProp 𝕄
  | .bar, d => barPay c d
  | .ex, _ => iprop(emp)
  | .snd k, _ => sndPay P c k
  | .rcv k, _ => rcvPay P c k

/-- Each pays something. -/
theorem amountOf'_pos (x : Cell) : 0 < amountOf' x := by cases x <;> first | exact Nat.one_pos | exact N_pos

/-- What is handed over may be stored -/
instance payOf_storable (c : Dev nD) (x : Cell) (d : Fin 3) : BI.Storable (upEmb : UEmb _ 𝕄) (payOf P c x d) := by
  cases x <;> unfold payOf
  · unfold barPay; infer_instance
  · infer_instance
  · unfold sndPay; infer_instance
  · unfold rcvPay; infer_instance

/-- One round on every cell: the barrier's and the closing handshake's of three duties of one unit, a channel's of one duty
    of the chunk's credit. -/
def Rd : Rounds.Schedule (GSem nD τ sig) (Fin 3) 𝕄 where
  duties g r := if r = 0 ∧ g.1.2 = .tc then (codeOf g.2).elim ∅ dutiesOf else ∅
  amount g _ _ := (codeOf g.2).elim 1 amountOf'
  payload g _ d := (codeOf g.2).elim iprop(emp) fun x => payOf P g.1.1 x d
  amount_pos g _ _ _ := by
    cases codeOf g.2
    · exact Nat.one_pos
    · exact amountOf'_pos _
  unitless _ := False

/-- in every round. -/
instance Rd_storable (g : GSem nD τ sig) (r : ℕ) (d : Fin 3) : BI.Storable (upEmb : UEmb _ 𝕄) ((Rd P).payload g r d) := by
  show BI.Storable _ ((codeOf g.2).elim iprop(emp) fun x => payOf P g.1.1 x d)
  cases codeOf g.2
  · show BI.Storable _ (iprop(emp) : sProp 𝕄); infer_instance
  · exact payOf_storable P _ _ _

section Tables
variable (c : Dev nD) (x : Cell)

/-- The schedule's tables, read at a cell: who pays, -/
theorem duties_cell : (Rd P).duties (cell c x) 0 = dutiesOf x := by
  unfold Rd
  dsimp only
  rw [if_pos ⟨rfl, rfl⟩, codeOf_semOf]; rfl
/-- (in the first round only) -/
theorem duties_later (g : GSem nD τ sig) : ∀ r, 1 ≤ r → (Rd P).duties g r = ∅ := fun r hr => by
  unfold Rd
  exact if_neg fun h => by omega
/-- how much, -/
theorem amount_cell (r : ℕ) (d : Fin 3) : (Rd P).amount (cell c x) r d = amountOf' x := by
  show (codeOf (semOf x)).elim 1 amountOf' = _
  rw [codeOf_semOf]; rfl
/-- what for, -/
theorem payload_cell (r : ℕ) (d : Fin 3) : (Rd P).payload (cell c x) r d = payOf P c x d := by
  show (codeOf (semOf x)).elim iprop(emp) (fun x => payOf P c x d) = _
  rw [codeOf_semOf]; rfl
/-- how much in all, -/
theorem expect_cell : (Rd P).expect (cell c x) 0 = (dutiesOf x).card * amountOf' x := by
  unfold Schedule.expect Schedule.amountOf
  rw [duties_cell, Finset.sum_congr rfl fun d _ => amount_cell P c x 0 d, Finset.sum_const, smul_eq_mul]
/-- and everything handed over. -/
theorem rest_cell : bigSep ((Rd P).duties (cell c x) 0 \ ∅) (fun d => (Rd P).payload (cell c x) 0 d) = bigSep (dutiesOf x) (payOf P c x) := by
  rw [Finset.sdiff_empty, duties_cell]
  exact bigSep_congr fun d _ => payload_cell P c x 0 d
end Tables

/-! ## What a device owes, and the levels -/

/-- A payment a device owes: a barrier signal, a copy, a closing signal. -/
inductive Debt
  | bar (d : Fin 3)
  | ch (k : Ch)
  | ex (d : Fin 3)
  deriving DecidableEq

/-- The cell that a debt is to, -/
def Debt.code : Debt → Cell
  | .bar _ => .bar
  | .ch k => .rcv k
  | .ex _ => .ex
/-- whose it is -/
def Debt.to : Debt → Dev nD → Dev nD
  | .bar d => nbr d
  | .ch k => tgt k
  | .ex d => nbr d
/-- and both together. -/
def Debt.cell (j : Debt) (c : Dev nD) : GSem nD τ sig := Ring.cell (j.to c) j.code
def Debt.amt (j : Debt) : ℕ := amountOf' j.code

/-- What device `c` owes when it has the payments of a list still to make; the first of the list is paid first. -/
def owed (c : Dev nD) : List Debt → CellTallies nD τ sig Unit
  | [] => 0
  | j :: l => owed c l + tallyAt (j.cell c) () j.amt

/-- The closing signals, and every payment of the kernel in program order. -/
abbrev exDebts : List Debt := [.ex 0, .ex 1, .ex 2]
abbrev allDebts : List Debt := [Debt.bar 0, .bar 1, .bar 2] ++ (allCh.map Debt.ch ++ exDebts)

/-- Every semaphore of a TensorCore has a level -/
def L (g : GSem nD τ sig) : Finset Unit := if g.1.2 = .tc then {()} else ∅
/-- The level of a cell: a wait is made owing only payments to cells above. -/
def lvOf : Cell → ℕ
  | .snd _ => 0
  | .bar => 1
  | .rcv (.y _) => 2
  | .rcv (.f h _) => 3 + h.val
  | .rcv (.b h _) => 3 + h.val
  | .ex => 20
/-- and this is it. -/
def lv (g : GSem nD τ sig) (_ : Unit) : ℕ := (codeOf g.2).elim 0 lvOf

/-- Other threads' semaphores have none. -/
theorem L_of_ne (g : GSem nD τ sig) (h : g.1.2 ≠ .tc) : L g = ∅ := if_neg h
theorem L_tc (c : Dev nD) (sm : SemLoc sig) : L ((c : Thread nD τ), sm) = {()} := if_pos rfl
/-- A cell's level. -/
theorem lv_cell (c : Dev nD) (x : Cell) (u : Unit) : lv (cell c x) u = lvOf x := by
  show (codeOf (semOf x)).elim 0 lvOf = _
  rw [codeOf_semOf]; rfl

/-- A positive debt is that of one of the list's payments. -/
theorem owed_pos {c : Dev nD} {l : List Debt} {g : GSem nD τ sig} {u : Unit} (h : 0 < owed c l g u) : ∃ j ∈ l, g = j.cell c := by
  induction l with
  | nil => exact absurd h (Nat.lt_irrefl 0)
  | cons j l ih =>
    unfold owed at h
    rw [Pi.add_apply, Finsupp.add_apply] at h
    rcases Nat.add_pos_iff_pos_or_pos.mp h with h | h
    · obtain ⟨j', hj, e⟩ := ih h
      exact ⟨j', List.mem_cons_of_mem _ hj, e⟩
    · rw [tallyAt_apply] at h
      split at h
      · next hg => exact ⟨j, List.mem_cons_self, hg.1⟩
      · exact absurd h (Nat.lt_irrefl 0)

/-- A device may wait on a cell below every payment it still owes. -/
theorem mayWait (c : Dev nD) (x : Cell) (l : List Debt) (h : ∀ j ∈ l, lvOf x < lvOf j.code) :
    (levAts L lv : sProp 𝕄) ⊢ MayWait (c : Thread nD τ) (semOf x) () (owed c l) :=
  MayOwe.of_cut (L := L) (lev := lv) (lvOf x) (fun p hp => by rw [Finset.mem_singleton.mp hp, L_tc]; exact Finset.mem_singleton_self _)
    (fun g u hg => by obtain ⟨j, -, rfl⟩ := owed_pos hg; unfold Debt.cell; rw [L_tc]; exact Finset.mem_singleton_self _)
    (fun p hp => by rw [Finset.mem_singleton.mp hp]; exact (lv_cell c x ()).le)
    (fun g u hg => by obtain ⟨j, hj, rfl⟩ := owed_pos hg; unfold Debt.cell; rw [lv_cell]; exact h j hj)

end Cert.KernelIdeal.Ring
-- ==== Proof.KernelIdeal.Steps.lean ====
/-
  One lemma per kind of operation of the kernel — a signal, the barrier's wait, a copy, its two waits, a load, a store —
  each stated once for every channel, neighbour or buffer, in terms of what a device holds before and after.
-/
module

public import proofs.«01_k».proof.Proof.KernelIdeal.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → S256x2048.Idx → Elt F .f32) (κ : GSem nD τ sig → ℕ)

/-- The kernel's loops have no variant to supply: it has none. -/
abbrev 𝒱₀ : Variants := Variants.none

/-! ## What is known, and what is held -/

/-- What every device knows throughout: the cells' invariants, and the levels. -/
def Know : sProp 𝕄 :=
  iprop((bigSep Finset.univ fun x : Dev nD × Cell => cellInv ER (Rd P) (κ (cell x.1 x.2)) (cell x.1 x.2)) ∗ levAts L lv)

/-- What the device knows may be used again and again: -/
instance know_persistent : BI.Persistent (Know P κ) := by unfold Know; infer_instance

/-- the cells' invariants -/
theorem know_inv (c : Dev nD) (x : Cell) : Know P κ ⊢ cellInv ER (Rd P) (κ (cell c x)) (cell c x) := by
  unfold Know
  exact sep_elim_left.trans
    (bigSep_elim (Φ := fun x : Dev nD × Cell => cellInv ER (Rd P) (κ (cell x.1 x.2)) (cell x.1 x.2)) (Finset.mem_univ (c, x)))

/-- and that it may wait on a cell below all that it owes. -/
theorem know_mayWait (c : Dev nD) (x : Cell) (l : List Debt) (h : ∀ j ∈ l, lvOf x < lvOf j.code) :
    Know P κ ⊢ MayWait (c : Thread nD τ) (semOf x) () (owed c l) := by
  unfold Know
  iintro ⟨-, H⟩
  iapply (mayWait c x l h)
  iexact H

/-- A device owes the payments of a list, whatever it has waited for so far. -/
def owe (c : Dev nD) (l : List Debt) : sProp 𝕄 := iprop(∃ W, owes (c : Thread nD τ) (owed c l) W)

/-- A cell drained: its counter at zero. -/
abbrev zero (c : Dev nD) (x : Cell) : sProp 𝕄 := semVal (cell c x) 0

/-- A channel not yet used: the place at the sender's cell, and the tokens of the two duties its copy pays. -/
def sndIdle (c : Dev nD) (k : Ch) : sProp 𝕄 :=
  iprop(atPos ER (cell c (.snd k)) 0 ∅ 0 ∗ reached ER (cell c (.snd k)) 0
    ∗ dutyTok ER (cell c (.snd k)) 0 0 ∗ dutyTok ER (cell (tgt k c) (.rcv k)) 0 0)
/-- What the barrier brings for it: the receiver's buffer, and that the receiver's cell is open. -/
def room (c : Dev nD) (k : Ch) : sProp 𝕄 :=
  iprop(someAt (F := F) (tgt k c) (dstM k) fullShare ∗ reached ER (cell (tgt k c) (.rcv k)) 0)
/-- A channel whose copy is under way. -/
def sndFly (c : Dev nD) (k : Ch) : sProp 𝕄 :=
  iprop(atPos ER (cell c (.snd k)) 0 ∅ 0 ∗ cred (tallyAt (cell c (.snd k)) () N))
/-- A channel on which something will come. -/
def rcvWait (c : Dev nD) (k : Ch) : sProp 𝕄 :=
  iprop(atPos ER (cell c (.rcv k)) 0 ∅ 0 ∗ cred (tallyAt (cell c (.rcv k)) () N))

section Steps
variable (c : Dev nD) {α : Type} {Q : α → sProp (MT nD τ sig Unit (Elt F) ℕ UU ℕ)}

/-! ## Signals and waits on the regular semaphores -/

/-- A signal to neighbour `d`'s cell `x`, a round of three duties, pays duty `d` there. -/
theorem signal_step {x : Cell} (j : Debt) (d : Fin 3) {l : List Debt} {e : Dev nD} {s : Sem sig} (he : e = nbr d c) (hs : SemLoc.reg s = semOf x)
    (hj : j.cell c = cell (nbr d c) x) (ha : j.amt = 1) (hd : d ∈ dutiesOf x) (hx : amountOf' x = 1)
    {k : PUnit → Prog (TpuEff nD τ sig (Elt F) Λ₀ .tc) α} :
    iprop(Know P κ ∗ owe (F := F) c (j :: l) ∗ dutyTok ER (cell (nbr d c) x) 0 d ∗ payOf P (nbr d c) x d ∗ reached ER (cell (nbr d c) x) 0)
      ⊢ iprop((owe (F := F) c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (e : Thread nD τ) s 1) k) Q) := by
  subst he
  have hg : (((nbr d c : Dev nD) : Thread nD τ), SemLoc.reg s) = cell (nbr d c) x := by rw [hs]
  have ho : owed c (j :: l) = owed c l + tallyAt (cell (nbr d c) x) () 1 := by
    show owed c l + tallyAt (j.cell c) () j.amt = _; rw [hj, ha]
  unfold owe
  rw [ho]
  iintro ⟨#HK, ⟨%W, Ho⟩, Htok, Hpay, Hr⟩ Hk
  iapply (Rounds.wp_signal 𝒱₀ ER (Rd P) (c : Thread nD τ) none (κ := κ (cell (nbr d c) x)) (r := 0) (d := d)
    (by rw [hg, duties_cell]; exact hd) (by rw [hg, amount_cell]; exact hx) () (owed c l)
    (by rw [hg]) (W := W)) $$ [Ho Htok Hpay Hr] [Hk]
  · simp only [hg, payload_cell]
    isplitr; · iapply (know_inv P κ (nbr d c) x); iexact HK
    isplitl [Ho]; · iexact Ho
    isplitl [Htok]; · iexact Htok
    isplitl [Hpay]; · iexact Hpay
    iexact Hr
  · iintro Ho; iapply Hk; iexists W; iexact Ho

/-- A wait that drains a cell: its owner gets every payment of the round, and closes the cell. -/
theorem drain_step (x : Cell) {l : List Debt} (hl : ∀ j ∈ l, lvOf x < lvOf j.code) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (semOf x) n K)
    (hn : n = (dutiesOf x).card * amountOf' x) {k : PUnit → Prog (TpuEff nD τ sig (Elt F) Λ₀ .tc) α} :
    iprop(Know P κ ∗ owe (F := F) c l ∗ atPos ER (cell c x) 0 ∅ 0 ∗ cred (tallyAt (cell c x) () n))
      ⊢ iprop(((owe (F := F) c l ∗ zero (F := F) c x ∗ bigSep (dutiesOf x) (payOf P c x)) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold owe
  iintro ⟨#HK, ⟨%W, Ho⟩, Hat, Hc⟩ Hk
  iapply (Rounds.wp_wait_rest_token 𝒱₀ ER (Rd P) (c : Thread nD τ) none (κ := κ (cell c x)) (sm := semOf x) (R := 0) (m := 0) (T := ∅)
    hw (Set.mem_univ _) () (O := owed c l) (W := W)
    (by rw [Nat.zero_add, expect_cell]; exact hn)) $$ [Ho Hat Hc] [Hk]
  · isplitr; · iapply (know_inv P κ c x); iexact HK
    isplitl [Hc]; · iexact Hc
    isplitl [Ho]; · iexact Ho
    isplitr; · iapply (know_mayWait P κ c x l hl); iexact HK
    iexact Hat
  · iintro ⟨Ho, Hat, -, Hp⟩
    imod (Rounds.cell_close ER (Rd P) (κ := κ (cell c x)) (Set.mem_univ _) (fun h => h) (fun r hr => duties_later P _ r hr)) $$ [Hat] with Hz
    · isplitr; · iapply (know_inv P κ c x); iexact HK
      iexact Hat
    iapply Hk
    isplitl [Ho]; · iexists _; iexact Ho
    isplitl [Hz]; · iexact Hz
    iapply (Entails.of_eq (rest_cell P c x)); iexact Hp

/-! ## Copies -/

/-- A copy's credit is the block's. -/
theorem dst_credit (k : Ch) : (dstM k).view.dmaCredit = N := by cases k <;> rfl
theorem src_credit (k : Ch) : (srcM k).view.dmaCredit = N := by
  rcases k with ch | ⟨⟨_ | h, hh⟩, ch⟩ | ⟨⟨_ | h, hh⟩, ch⟩ <;> rfl

/-- Starting a channel's copy: the lent share of the source and the receiver's buffer go with it. -/
theorem copy_step (k : Ch) {l : List Debt} {e : Dev nD} {src dst : Memref sig .tc .vmem S256x1024 .bf16} {sS sR : DmaSem sig}
    (he : e = tgt k c) (hsrc : src = srcM k) (hdst : dst = dstM k) (hsS : sS = sndS k) (hsR : sR = rcvS k)
    {hsc : dst.view.ref.isScScratch = false} {h1 : src.view.WordExact} {h2 : dst.view.WordExact}
    {h3 : DmaTarget.Typed (τ := τ) (p := .tc) .vmem (.dma sR) (.remote (e : Thread nD τ) dst (.dma sS) hsc)}
    {kk : PUnit → Prog (TpuEff nD τ sig (Elt F) Λ₀ .tc) α} :
    iprop(Know P κ ∗ owe (F := F) c (.ch k :: l) ∗ sndIdle (F := F) c k ∗ room (F := F) c k ∗ owns (c : Thread nD τ) (srcM k) (qs k) (val P k c))
      ⊢ iprop(((owe (F := F) c l ∗ sndFly (F := F) c k) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (e : Thread nD τ) dst (.dma sS) hsc) (.dma sR) h1 h2 h3) kk) Q) := by
  subst he hsrc hdst hsS hsR
  unfold owe sndIdle room sndFly someAt ownsSat owns
  iintro ⟨#HK, ⟨%W, Ho⟩, ⟨Hat, Hr1, Ht1, Ht2⟩, ⟨⟨%fd, -, Hd⟩, Hr2⟩, %fs, %hfs, Hs⟩ Hk
  have h₁ : ((srcM k).view.loc (c : Thread nD τ) ↦[(srcM k).view.set]{qs k} fs : sProp 𝕄) ⊢ (Rd P).payload (cell c (.snd k)) 0 0 := by
    rw [payload_cell]; show _ ⊢ sndPay P c k; unfold sndPay; rw [← hfs]; exact owns_intro _ _ _ _
  have h₂ : ((dstM k).view.loc (tgt k c : Thread nD τ) ↦[(dstM k).view.set]{fullShare}
      ((dstM k).view.write (Elt F) fd ((srcM k).view.read (Elt F) fs) Finset.univ) : sProp 𝕄) ⊢ (Rd P).payload (cell (tgt k c) (.rcv k)) 0 0 := by
    rw [payload_cell]; show _ ⊢ rcvPay P (tgt k c) k; unfold rcvPay; rw [org_tgt, ← hfs]
    refine (owns_intro (tgt k c : Thread nD τ) (dstM k) fullShare ((dstM k).view.write (Elt F) fd ((srcM k).view.read (Elt F) fs) Finset.univ)).trans (Entails.of_eq ?_)
    rw [View.read_write_univ]
  have hr : τ.routes (c : Thread nD τ) (tgt k c : Thread nD τ) = true := by routes
  iapply (Rounds.wp_send_pointsTo (hsc := hsc) (hsrc := h1) (hdst := h2) (hsem := h3) 𝒱₀ ER (Rd P) (c : Thread nD τ) none (c' := (tgt k c : Thread nD τ)) (src := srcM k) (dst := dstM k)
    (κ₁ := κ (cell c (.snd k))) (κ₂ := κ (cell (tgt k c) (.rcv k)))
    (r₁ := 0) (r₂ := 0) (d₁ := 0) (d₂ := 0) (q := qs k) (fs := fs) (fd := fd) (sS := .dma (sndS k)) (sem := .dma (rcvS k))
    ((duties_cell P c (.snd k)).ge (Finset.mem_singleton_self _))
    ((duties_cell P (tgt k c) (.rcv k)).ge (Finset.mem_singleton_self _))
    () () N (dst_credit k) (amount_cell P c (.snd k) 0 0) (amount_cell P (tgt k c) (.rcv k) 0 0) (owed c l) rfl (W := W) h₁ h₂ hr) $$ [Ho Ht1 Ht2 Hr1 Hr2 Hs Hd] [Hk Hat]
  · isplitr; · iapply (know_inv P κ c (.snd k)); iexact HK
    isplitr; · iapply (know_inv P κ (tgt k c) (.rcv k)); iexact HK
    isplitl [Hs]; · iexact Hs
    isplitl [Hd]; · iexact Hd
    isplitl [Ho]; · iexact Ho
    isplitl [Ht1]; · iexact Ht1
    isplitl [Hr1]; · iexact Hr1
    isplitl [Ht2]; · iexact Ht2
    iexact Hr2
  · iintro ⟨Hc, Ho⟩; iapply Hk
    isplitl [Ho]; · iexists W; iexact Ho
    isplitl [Hat]; · iexact Hat
    iexact Hc

/-- Waiting for what comes on a channel: the buffer, holding what the neighbour sent. -/
theorem recv_step (k : Ch) {l : List Debt} (hl : ∀ j ∈ l, lvOf (.rcv k) < lvOf j.code) {s : DmaSem sig} {src dst : Memref sig .tc .vmem S256x1024 .bf16}
    (hs : s = rcvS k) (hdst : dst = dstM k) {h1 : src.view.WordExact} {h2 : dst.view.WordExact}
    {kk : PUnit → Prog (TpuEff nD τ sig (Elt F) Λ₀ .tc) α} :
    iprop(Know P κ ∗ owe (F := F) c l ∗ rcvWait (F := F) c k)
      ⊢ iprop(((owe (F := F) c l ∗ zero (F := F) c (.rcv k) ∗ owns (c : Thread nD τ) (dstM k) fullShare (val P k (org k c)))
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst h1 h2) kk) Q) := by
  subst hs hdst
  unfold rcvWait
  iintro ⟨#HK, Ho, Hat, Hc⟩ Hk
  iapply (drain_step P κ c (.rcv k) hl (n := N) (fun K => by rw [wpE_waitDma2_eq, dst_credit]; rfl) (by show N = 1 * N; rw [Nat.one_mul])) $$ [Ho Hat Hc] [Hk]
  · isplitr; · iexact HK
    isplitl [Ho]; · iexact Ho
    isplitl [Hat]; · iexact Hat
    iexact Hc
  · iintro ⟨Ho, Hz, Hp⟩; iapply Hk
    isplitl [Ho]; · iexact Ho
    isplitl [Hz]; · iexact Hz
    iapply (show bigSep (dutiesOf (.rcv k)) (payOf P c (.rcv k)) ⊢ owns (c : Thread nD τ) (dstM k) fullShare (val P k (org k c)) from Entails.of_eq bigSep_singleton)
    iexact Hp

/-- Waiting for a channel's copy to have left: the lent share of the source comes back. -/
theorem sent_step (k : Ch) {l : List Debt} (hl : ∀ j ∈ l, lvOf (.snd k) < lvOf j.code) {s : DmaSem sig} {src dst : Memref sig .tc .vmem S256x1024 .bf16}
    (hs : s = sndS k) (hdst : dst = srcM k) {h1 : src.view.WordExact} {h2 : dst.view.WordExact}
    {kk : PUnit → Prog (TpuEff nD τ sig (Elt F) Λ₀ .tc) α} :
    iprop(Know P κ ∗ owe (F := F) c l ∗ sndFly (F := F) c k)
      ⊢ iprop(((owe (F := F) c l ∗ zero (F := F) c (.snd k) ∗ owns (c : Thread nD τ) (srcM k) (qs k) (val P k c))
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst h1 h2) kk) Q) := by
  subst hs hdst
  unfold sndFly
  iintro ⟨#HK, Ho, Hat, Hc⟩ Hk
  iapply (drain_step P κ c (.snd k) hl (n := N) (fun K => by rw [wpE_waitDma2_eq, src_credit]; rfl)
    (by show N = 1 * N; rw [Nat.one_mul])) $$ [Ho Hat Hc] [Hk]
  · isplitr; · iexact HK
    isplitl [Ho]; · iexact Ho
    isplitl [Hat]; · iexact Hat
    iexact Hc
  · iintro ⟨Ho, Hz, Hp⟩; iapply Hk
    isplitl [Ho]; · iexact Ho
    isplitl [Hz]; · iexact Hz
    iapply (show bigSep (dutiesOf (.snd k)) (payOf P c (.snd k)) ⊢ owns (c : Thread nD τ) (srcM k) (qs k) (val P k c) from Entails.of_eq bigSep_singleton)
    iexact Hp

/-! ## Loads and stores -/

/-- Loading through a rectangle of a memref whose squeezed slice is owned: what is read, reshaped, is what the slice holds. -/
theorem load_slot {s s' : Shape} {e : EltTy} (M : Memref sig .tc .vmem s e) (r : Rect s) (hr : ∀ a, r.stride a = 1) (hq : r.shape.Squeezes s')
    (hc : r.shape.ShapeCasts s') (q : PosShare TreeShare) (v : s'.Idx → Elt F e) {hl : M.view.LoadsAt r.toLoadRect}
    {k : (r.shape.Idx → Elt F e) → Prog (TpuEff nD τ sig (Elt F) Λ₀ .tc) α} :
    owns (c : Thread nD τ) ((M.slice r hr).squeeze s' hq) q v
      ⊢ iprop((∀ x, ⌜shapeCast s' x hc = v⌝ -∗ owns (c : Thread nD τ) ((M.slice r hr).squeeze s' hq) q v
          -∗ wp frame (wpE (defs₀ (F := F)) 𝒱₀ (c : Thread nD τ) none) Set.univ (k x) Q)
        -∗ wp frame (wpE (defs₀ (F := F)) 𝒱₀ (c : Thread nD τ) none) Set.univ (.op (.load M r.toLoadRect hl) k) Q) := by
  unfold owns
  iintro ⟨%f, %hf, H⟩ Hk
  iapply (wp_load 𝒱₀ (c : Thread nD τ) none Set.univ (m := M) (r := r.toLoadRect) (q := q) (f := f)
    (S := ((M.slice r hr).squeeze s' hq).view.set) (by
      rw [Memref.set_view_squeeze]; exact (View.set_slice _ _).ge)) $$ [H] [Hk]
  · iexact H
  · iintro H
    iapply Hk $$ %(M.view.readAt (Elt F) r.toLoadRect f) [] [H]
    · ipureintro; rw [← hf]; rfl
    · iexists f; isplitr
      · ipureintro; exact hf
      · iexact H

/-- A load whose value is not used. -/
theorem load_any {s s' : Shape} {e : EltTy} (M : Memref sig .tc .vmem s e) (r : Rect s) (hr : ∀ a, r.stride a = 1) (hq : r.shape.Squeezes s')
    (q : PosShare TreeShare) (Φ : (s'.Idx → Elt F e) → Prop) {hl : M.view.LoadsAt r.toLoadRect}
    {k : (r.shape.Idx → Elt F e) → Prog (TpuEff nD τ sig (Elt F) Λ₀ .tc) α} :
    ownsSat (c : Thread nD τ) ((M.slice r hr).squeeze s' hq) q Φ
      ⊢ iprop((∀ x, ownsSat (c : Thread nD τ) ((M.slice r hr).squeeze s' hq) q Φ
          -∗ wp frame (wpE (defs₀ (F := F)) 𝒱₀ (c : Thread nD τ) none) Set.univ (k x) Q)
        -∗ wp frame (wpE (defs₀ (F := F)) 𝒱₀ (c : Thread nD τ) none) Set.univ (.op (.load M r.toLoadRect hl) k) Q) := by
  unfold ownsSat
  iintro ⟨%f, %hf, H⟩ Hk
  iapply (wp_load 𝒱₀ (c : Thread nD τ) none Set.univ (m := M) (r := r.toLoadRect) (q := q) (f := f)
    (S := ((M.slice r hr).squeeze s' hq).view.set) (by
      rw [Memref.set_view_squeeze]; exact (View.set_slice _ _).ge)) $$ [H] [Hk]
  · iexact H
  · iintro H
    iapply Hk $$ %(M.view.readAt (Elt F) r.toLoadRect f) [H]
    iexists f; isplitr
    · ipureintro; exact hf
    · iexact H

/-- A store through a rectangle of a memref whose squeezed slice is owned: the slice then holds what was stored, reshaped. -/
theorem store_slot {s s' : Shape} {e : EltTy} (M : Memref sig .tc .vmem s e) (r : Rect s) (hr : ∀ a, r.stride a = 1) (hq : r.shape.Squeezes s')
    (hc : r.shape.ShapeCasts s') (w : r.shape.Idx → Elt F e) (v : s'.Idx → Elt F e) (hv : shapeCast s' w hc = v) {hx : (M.access r).Stores Finset.univ}
    {hm : (Finset.univ : Finset r.shape.Idx) = Finset.univ ∨ ∀ a, r.stride a = 1}
    {k : PUnit → Prog (TpuEff nD τ sig (Elt F) Λ₀ .tc) α} :
    ownsSat (c : Thread nD τ) ((M.slice r hr).squeeze s' hq) fullShare (fun _ => True)
      ⊢ iprop((owns (c : Thread nD τ) ((M.slice r hr).squeeze s' hq) fullShare v
          -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold ownsSat owns
  iintro ⟨%f, -, H⟩ Hk
  iapply (wp_store 𝒱₀ (c : Thread nD τ) none Set.univ (m := M) (r := r) (w := w) (f := f)
    (S := ((M.slice r hr).squeeze s' hq).view.set) (by
      rw [Memref.set_view_squeeze]; exact (View.setOn_univ _).le)) $$ [H] [Hk]
  · iexact H
  · iintro H
    iapply Hk
    iexists ((M.access r).write (Elt F) f w Finset.univ)
    isplitr
    · ipureintro
      rw [← hv]
      show shapeCast s' ((M.access r).read (Elt F) ((M.access r).write (Elt F) f w Finset.univ)) hc = shapeCast s' w hc
      rw [View.read_write_univ]
    · iexact H

/-- Loading through a rectangle of a memref owned at known contents. -/
theorem load_known {s : Shape} {e : EltTy} (M : Memref sig .tc .vmem s e) (r : Rect s) (q : PosShare TreeShare) (X : s.Idx → Elt F e)
    {hl : M.view.LoadsAt r.toLoadRect} {k : (r.shape.Idx → Elt F e) → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (k fun j => X (r.emb j)) Q)
        -∗ wp frame (wpE (defs₀ (F := F)) 𝒱₀ (c : Thread nD τ) none) Set.univ (.op (.load M r.toLoadRect hl) k) Q) := by
  unfold owns
  iintro ⟨%f, %hf, H⟩ Hk
  iapply (wp_load 𝒱₀ (c : Thread nD τ) none Set.univ (m := M) (r := r.toLoadRect) (q := q) (f := f)
    (S := M.view.set) (View.setOn_subset_set _ _)) $$ [H] [Hk]
  · iexact H
  · iintro H
    rw [show (M.view.readAt (Elt F) r.toLoadRect f) = fun j => X (r.emb j) by rw [← hf]; rfl]
    iapply Hk
    iexists f; isplitr
    · ipureintro; exact hf
    · iexact H

/-- A load of the output whose value is not used. -/
theorem load_out {s : Shape} {e : EltTy} (M : Memref sig .tc .vmem s e) (r : Rect s) (q : PosShare TreeShare) (Φ : (s.Idx → Elt F e) → Prop)
    {hl : M.view.LoadsAt r.toLoadRect} {k : (r.shape.Idx → Elt F e) → Prog (TpuEff nD τ sig (Elt F) Λ₀ .tc) α} :
    ownsSat (c : Thread nD τ) M q Φ
      ⊢ iprop((∀ x, ownsSat (c : Thread nD τ) M q Φ -∗ wp frame (wpE (defs₀ (F := F)) 𝒱₀ (c : Thread nD τ) none) Set.univ (k x) Q)
        -∗ wp frame (wpE (defs₀ (F := F)) 𝒱₀ (c : Thread nD τ) none) Set.univ (.op (.load M r.toLoadRect hl) k) Q) := by
  unfold ownsSat
  iintro ⟨%f, %hf, H⟩ Hk
  iapply (wp_load 𝒱₀ (c : Thread nD τ) none Set.univ (m := M) (r := r.toLoadRect) (q := q) (f := f)
    (S := M.view.set) (View.setOn_subset_set _ _)) $$ [H] [Hk]
  · iexact H
  · iintro H
    iapply Hk $$ %(M.view.readAt (Elt F) r.toLoadRect f) [H]
    iexists f; isplitr
    · ipureintro; exact hf
    · iexact H

/-- A store through a rectangle of a memref of which something is known. -/
theorem store_out {s : Shape} {e : EltTy} (M : Memref sig .tc .vmem s e) (r : Rect s) (w : r.shape.Idx → Elt F e) (Φ Ψ : (s.Idx → Elt F e) → Prop)
    (h : ∀ X Y, Φ X → (∀ j, Y (r.emb j) = w j) → (∀ i, i ∉ r.set → Y i = X i) → Ψ Y) {hx : (M.access r).Stores Finset.univ}
    {hm : (Finset.univ : Finset r.shape.Idx) = Finset.univ ∨ ∀ a, r.stride a = 1}
    {k : PUnit → Prog (TpuEff nD τ sig (Elt F) Λ₀ .tc) α} :
    ownsSat (c : Thread nD τ) M fullShare Φ
      ⊢ iprop((ownsSat (c : Thread nD τ) M fullShare Ψ -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold ownsSat
  iintro ⟨%f, %hf, H⟩ Hk
  iapply (wp_store 𝒱₀ (c : Thread nD τ) none Set.univ (m := M) (r := r) (w := w) (f := f)
    (S := M.view.set) ((View.setOn_univ _).le.trans (View.set_slice_subset _ _))) $$ [H] [Hk]
  · iexact H
  · iintro H
    iapply Hk
    iexists ((M.access r).write (Elt F) f w Finset.univ)
    isplitr
    · ipureintro
      exact h _ _ hf (fun j => View.read_slice_write_emb r f w (Finset.mem_univ j))
        (fun i hi => View.read_slice_write_of_not_mem r f w _ (by rwa [Rect.map_emb_univ]))
    · iexact H

end Steps

end Cert.KernelIdeal.Ring
-- ==== Proof.KernelIdeal.State.lean ====
/-
  The state of a device between two operations, as the lists of what it still owes, still has to send and receive, and has
  back; how each operation moves it; and what the output buffer holds, block by block.
-/
module

public import proofs.«01_k».proof.Proof.KernelIdeal.Steps
public import Idealize.ShloMosaic.Lib.Pipeline.BigSepL

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → S256x2048.Idx → Elt F .f32) (κ : GSem nD τ sig → ℕ)

/-! ## The output, block by block -/

/-- What the block `r` places further round the ring gets in columns `ch`: the device's own sum in its own block, and in
    every other the rounded sum of the device there. -/
def Gblk (c : Dev nD) (r : ℕ) (ch : Fin 2) : FVec F S256x1024 .f32 :=
  if r = 0 then red P c ch else extf .f32 (rb P (at' (pos c + r) (side c)) ch) bitsLt_bf16_f32

/-- An element's block, relative to the device; its column chunk; its place in the block. -/
def rel (c : Dev nD) (i : S2048x2048.Idx) : ℕ := ((i 0).val / 256 + 8 - pos c) % 8
def chunkOf (i : S2048x2048.Idx) : Fin 2 := ⟨(i 1).val / 1024, by have h : (i 1).val < 2048 := (i 1).isLt; omega⟩
def inBlk (i : S2048x2048.Idx) : S256x1024.Idx :=
  fun a => ⟨(i a).val % S256x1024.size a, Nat.mod_lt _ (by revert a; decide)⟩

/-- What device `c` leaves in its output buffer. -/
def G (c : Dev nD) : S2048x2048.Idx → Elt F .f32 := fun i => Gblk P c (rel c i) (chunkOf i) (inBlk i)

/-- The output buffer holds what it is to hold on the blocks of a list. -/
def Out (c : Dev nD) (S : List (ℕ × Fin 2)) (X : S2048x2048.Idx → Elt F .f32) : Prop :=
  ∀ i, (rel c i, chunkOf i) ∈ S → X i = G P c i

/-- The places of a block in the buffer. -/
theorem blk_geometry (c : Dev nD) {r : ℕ} (hr : r < 8) (ch : Fin 2) (i : S2048x2048.Idx) (j : S256x1024.Idx)
    (h : ∀ a, (i a).val = offAt (pos c + r) ch a + (j a).val) : rel c i = r ∧ chunkOf i = ch ∧ inBlk i = j := by
  have h0 : (i 0).val = (pos c + r) % 8 * 256 + (j 0).val := h 0
  have h1 : (i 1).val = ch.val * 1024 + (j 1).val := h 1
  have j0 : (j 0).val < 256 := (j 0).isLt
  have j1 : (j 1).val < 1024 := (j 1).isLt
  have hp := pos_lt c
  refine ⟨?_, Fin.ext ?_, funext fun a => ?_⟩
  · show ((i 0).val / 256 + 8 - pos c) % 8 = r
    omega
  · show (i 1).val / 1024 = ch.val
    omega
  · match a with
    | 0 => exact Fin.ext (show (i 0).val % 256 = (j 0).val by omega)
    | 1 => exact Fin.ext (show (i 1).val % 1024 = (j 1).val by omega)

section Steps
variable (c : Dev nD) {α : Type} {Q : α → sProp (MT nD τ sig Unit (Elt F) ℕ UU ℕ)}

/-- Storing a block of the output. -/
theorem out_step (M : Memref sig .tc .vmem S2048x2048 .f32) {S : List (ℕ × Fin 2)} (r : ℕ) (hr : r < 8) (ch : Fin 2) {off : Fin 2 → ℕ}
    {inb : ∀ a, off a + S256x1024.size a ≤ S2048x2048.size a} (hoff : off = offAt (pos c + r) ch) {w : FVec F S256x1024 .f32} (hw : w = Gblk P c r ch)
    {hx : (M.access (Rect.unit (s := S2048x2048) off S256x1024.size inb)).Stores Finset.univ} {hm}
    {k : PUnit → Prog (TpuEff nD τ sig (Elt F) Λ₀ .tc) α} :
    ownsSat (c : Thread nD τ) M fullShare (Out P c S)
      ⊢ iprop((ownsSat (c : Thread nD τ) M fullShare (Out P c ((r, ch) :: S))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S2048x2048) off S256x1024.size inb) w Finset.univ hx hm) k) Q) := by
  subst hoff hw
  refine store_out c M _ _ _ _ fun X Y hX hY hYX i hi => ?_
  by_cases hm : i ∈ (Rect.unit (s := S2048x2048) (offAt (pos c + r) ch) S256x1024.size inb).set
  · obtain ⟨j, hj⟩ := LoadRect.exists_idx_of_mem _ hm
    have hj' : (Rect.unit (s := S2048x2048) (offAt (pos c + r) ch) S256x1024.size inb).emb j = i := hj
    have hg := blk_geometry c hr ch i j fun a => by
      rw [← hj']; show _ + 1 * _ = _; rw [Nat.one_mul]; rfl
    rw [← hj', hY, hj']
    show _ = Gblk P c (rel c i) (chunkOf i) (inBlk i)
    rw [hg.1, hg.2.1, hg.2.2]
  · rw [hYX i hm]
    rcases List.mem_cons.mp hi with h | h
    · refine absurd (Rect.mem_set_unit.mpr fun a => ?_) hm
      have h0 : ((i 0).val / 256 + 8 - pos c) % 8 = r := congrArg Prod.fst h
      have h1 : (i 1).val / 1024 = ch.val := congrArg (fun x : ℕ × Fin 2 => x.2.val) h
      have hi0 : (i 0).val < 2048 := (i 0).isLt
      have hp := pos_lt c
      match a with
      | 0 =>
        show (pos c + r) % 8 * 256 ≤ (i 0).val ∧ (i 0).val < (pos c + r) % 8 * 256 + 256
        omega
      | 1 =>
        show ch.val * 1024 ≤ (i 1).val ∧ (i 1).val < ch.val * 1024 + 1024
        omega
    · exact hX i h

/-! ## The state -/

/-- Assertions over a list, in another order. -/
theorem list_perm {ι : Type} {l l' : List ι} (h : l.Perm l') (Φ : ι → sProp (MT nD τ sig Unit (Elt F) ℕ UU ℕ)) : bigSepL l Φ ⊢ bigSepL l' Φ := by
  induction h with
  | nil => exact .rfl
  | cons a _ ih => rw [bigSepL_cons, bigSepL_cons]; exact sep_mono_right ih
  | swap a b l =>
    rw [bigSepL_cons', bigSepL_cons', bigSepL_cons', bigSepL_cons']
    iintro ⟨Ha, Hb, Hl⟩
    isplitl [Hb]; · iexact Hb
    isplitl [Ha]; · iexact Ha
    iexact Hl
  | trans _ _ ih1 ih2 => exact ih1.trans ih2

/-- What stays with the device of a buffer whose other half a copy has, and of a buffer that is not passed on. -/
inductive Slot
  | ys (ch : Fin 2)
  | got (k : Ch)
  deriving DecidableEq

/-- The share of a receive slot that the device keeps. -/
def keepShare : Ch → PosShare TreeShare
  | .y _ => fullShare
  | .f 3 _ => fullShare
  | .b 2 _ => fullShare
  | _ => fullShare.right

/-- A slot that the device has, with its contents. -/
def slotOf : Slot → sProp 𝕄
  | .ys ch => owns (c : Thread nD τ) (ysM ch) fullShare.right (yv P c ch)
  | .got k => owns (c : Thread nD τ) (dstM k) (keepShare k) (val P k (org k c))

/-- The state: payments owed, channels to send on, channels to receive on, copies under way, cells drained, sources back,
    slots kept. -/
def St (d : List Debt) (i w fl : List Ch) (z : List Cell) (rt : List Ch) (hd : List Slot) : sProp 𝕄 :=
  iprop(owe c d ∗ bigSepL i (fun k => iprop(sndIdle c k ∗ room (F := F) c k)) ∗ bigSepL w (rcvWait c) ∗ bigSepL fl (sndFly c)
    ∗ bigSepL z (zero c) ∗ bigSepL rt (sndPay P c) ∗ bigSepL hd (slotOf P c))

section Moves
variable {d : List Debt} {i w fl : List Ch} {z : List Cell} {rt : List Ch} {hd : List Slot}

/-- Starting a channel's copy moves it from what is to be sent to what is on its way. -/
theorem st_copy (k : Ch) {e : Dev nD} {src dst : Memref sig .tc .vmem S256x1024 .bf16} {sS sR : DmaSem sig}
    (he : e = tgt k c) (hsrc : src = srcM k) (hdst : dst = dstM k) (hsS : sS = sndS k) (hsR : sR = rcvS k)
    {hsc : dst.view.ref.isScScratch = false} {h1 : src.view.WordExact} {h2 : dst.view.WordExact}
    {h3 : DmaTarget.Typed (τ := τ) (p := .tc) .vmem (.dma sR) (.remote (e : Thread nD τ) dst (.dma sS) hsc)}
    {kk : PUnit → Prog (TpuEff nD τ sig (Elt F) Λ₀ .tc) α} :
    iprop(Know P κ ∗ St P c (.ch k :: d) (k :: i) w fl z rt hd ∗ owns (c : Thread nD τ) (srcM k) (qs k) (val P k c))
      ⊢ iprop((St P c d i w (k :: fl) z rt hd -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (e : Thread nD τ) dst (.dma sS) hsc) (.dma sR) h1 h2 h3) kk) Q) := by
  unfold St; simp only [bigSepL_cons']
  iintro ⟨#HK, ⟨Ho, ⟨⟨Hi, Hr⟩, Hi'⟩, Hw, Hf, Hz, Hrt, Hh⟩, Hs⟩ Hk
  iapply (copy_step P κ c k he hsrc hdst hsS hsR) $$ [Ho Hi Hr Hs] [Hi' Hw Hf Hz Hrt Hh Hk]
  · isplitr; · iexact HK
    isplitl [Ho]; · iexact Ho
    isplitl [Hi]; · iexact Hi
    isplitl [Hr]; · iexact Hr
    iexact Hs
  · iintro ⟨Ho, Hf'⟩; iapply Hk
    isplitl [Ho]; · iexact Ho
    isplitl [Hi']; · iexact Hi'
    isplitl [Hw]; · iexact Hw
    isplitl [Hf Hf']
    · isplitl [Hf'] <;> iassumption
    isplitl [Hz]; · iexact Hz
    isplitl [Hrt] <;> iassumption

/-- Waiting for what a channel brings. -/
theorem st_recv (k : Ch) (hl : ∀ j ∈ d, lvOf (.rcv k) < lvOf j.code) {s : DmaSem sig} {src dst : Memref sig .tc .vmem S256x1024 .bf16}
    (hs : s = rcvS k) (hdst : dst = dstM k) {h1 : src.view.WordExact} {h2 : dst.view.WordExact}
    {kk : PUnit → Prog (TpuEff nD τ sig (Elt F) Λ₀ .tc) α} :
    iprop(Know P κ ∗ St P c d i (k :: w) fl z rt hd)
      ⊢ iprop(((St P c d i w fl (.rcv k :: z) rt hd ∗ owns (c : Thread nD τ) (dstM k) fullShare (val P k (org k c)))
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst h1 h2) kk) Q) := by
  unfold St; simp only [bigSepL_cons']
  iintro ⟨#HK, Ho, Hi, ⟨Hw, Hw'⟩, Hf, Hz, Hrt, Hh⟩ Hk
  iapply (recv_step P κ c k hl hs hdst) $$ [Ho Hw] [Hi Hw' Hf Hz Hrt Hh Hk]
  · isplitr; · iexact HK
    isplitl [Ho] <;> iassumption
  · iintro ⟨Ho, Hz', Hv⟩; iapply Hk
    isplitr [Hv]
    · isplitl [Ho]; · iexact Ho
      isplitl [Hi]; · iexact Hi
      isplitl [Hw']; · iexact Hw'
      isplitl [Hf]; · iexact Hf
      isplitl [Hz Hz']
      · isplitl [Hz'] <;> iassumption
      isplitl [Hrt] <;> iassumption
    · iexact Hv

/-- Waiting until a copy has left its source. -/
theorem st_sent (k : Ch) {fl' : List Ch} (hp : fl.Perm (k :: fl')) (hl : ∀ j ∈ d, lvOf (.snd k) < lvOf j.code) {s : DmaSem sig} {src dst : Memref sig .tc .vmem S256x1024 .bf16}
    (hs : s = sndS k) (hdst : dst = srcM k) {h1 : src.view.WordExact} {h2 : dst.view.WordExact}
    {kk : PUnit → Prog (TpuEff nD τ sig (Elt F) Λ₀ .tc) α} :
    iprop(Know P κ ∗ St P c d i w fl z rt hd)
      ⊢ iprop((St P c d i w fl' (.snd k :: z) (k :: rt) hd
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst h1 h2) kk) Q) := by
  have hf := (list_perm hp (sndFly (F := F) c)).trans (Entails.of_eq (bigSepL_cons' k fl' (sndFly (F := F) c)))
  unfold St; simp only [bigSepL_cons']
  iintro ⟨#HK, Ho, Hi, Hw, Hf, Hz, Hrt, Hh⟩ Hk
  ihave Hf := hf $$ Hf
  icases Hf with ⟨Hf, Hf'⟩
  iapply (sent_step P κ c k hl hs hdst) $$ [Ho Hf] [Hi Hw Hf' Hz Hrt Hh Hk]
  · isplitr; · iexact HK
    isplitl [Ho] <;> iassumption
  · iintro ⟨Ho, Hz', Hv⟩; iapply Hk
    isplitl [Ho]; · iexact Ho
    isplitl [Hi]; · iexact Hi
    isplitl [Hw]; · iexact Hw
    isplitl [Hf']; · iexact Hf'
    isplitl [Hz Hz']
    · isplitl [Hz'] <;> iassumption
    isplitl [Hrt Hv]
    · isplitl [Hv]; · unfold sndPay; iexact Hv
      iexact Hrt
    · iexact Hh

/-- Setting a slot aside. -/
theorem st_keep (s : Slot) : iprop(St P c d i w fl z rt hd ∗ slotOf P c s) ⊢ St P c d i w fl z rt (s :: hd) := by
  unfold St; simp only [bigSepL_cons']
  iintro ⟨⟨Ho, Hi, Hw, Hf, Hz, Hrt, Hh⟩, Hs⟩
  isplitl [Ho]; · iexact Ho
  isplitl [Hi]; · iexact Hi
  isplitl [Hw]; · iexact Hw
  isplitl [Hf]; · iexact Hf
  isplitl [Hz]; · iexact Hz
  isplitl [Hrt]; · iexact Hrt
  isplitl [Hs] <;> iassumption

end Moves

/-! ### The state by counters -/

/-- The channels from number `n` on; the payments owed once `n` copies have started; the copies then under way; the cells
    drained once `m` blocks have come. -/
def todo (n : ℕ) : List Ch := allCh.drop n
def left (n : ℕ) : List Debt := (todo n).map Debt.ch ++ exDebts
def flown (n : ℕ) : List Ch := (allCh.take n).reverse
def gotten (m : ℕ) : List Cell := (allCh.take m).reverse.map Cell.rcv
/-- The order in which the device waits for its copies to have left. -/
def sndOrd : List Ch :=
  [.y 0, .y 1, .f 0 0, .f 0 1, .f 1 0, .f 1 1, .f 2 0, .f 2 1, .f 3 0, .f 3 1, .b 0 0, .b 0 1, .b 1 0, .b 1 1, .b 2 0, .b 2 1]

/-- `n` copies started and `m` blocks received. -/
def Going (n m : ℕ) (hd : List Slot) : sProp 𝕄 := St P c (left n) (todo n) (todo m) (flown n) (gotten m) [] hd
/-- Everything received, and `s` copies waited for. -/
def Ending (s : ℕ) (hd : List Slot) : sProp 𝕄 :=
  St P c exDebts [] [] (sndOrd.drop s) ((sndOrd.take s).reverse.map Cell.snd ++ gotten 16) (sndOrd.take s).reverse hd

/-- Starting copy number `n`. -/
theorem go_copy (n : ℕ) {m : ℕ} {hd : List Slot} (k : Ch) (hk : todo n = k :: todo (n + 1)) (hf : flown (n + 1) = k :: flown n)
    {e : Dev nD} {src dst : Memref sig .tc .vmem S256x1024 .bf16} {sS sR : DmaSem sig}
    (he : e = tgt k c) (hsrc : src = srcM k) (hdst : dst = dstM k) (hsS : sS = sndS k) (hsR : sR = rcvS k)
    {hsc : dst.view.ref.isScScratch = false} {h1 : src.view.WordExact} {h2 : dst.view.WordExact}
    {h3 : DmaTarget.Typed (τ := τ) (p := .tc) .vmem (.dma sR) (.remote (e : Thread nD τ) dst (.dma sS) hsc)}
    {kk : PUnit → Prog (TpuEff nD τ sig (Elt F) Λ₀ .tc) α} :
    iprop(Know P κ ∗ Going P c n m hd ∗ owns (c : Thread nD τ) (srcM k) (qs k) (val P k c))
      ⊢ iprop((Going P c (n + 1) m hd -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (e : Thread nD τ) dst (.dma sS) hsc) (.dma sR) h1 h2 h3) kk) Q) := by
  have e1 : left n = .ch k :: left (n + 1) := by unfold left; rw [hk]; rfl
  unfold Going; rw [e1, hf]
  have h := st_copy P κ c (Q := Q) (d := left (n + 1)) (i := todo (n + 1)) (w := todo m) (fl := flown n) (z := gotten m) (rt := []) (hd := hd)
    k he hsrc hdst hsS hsR (hsc := hsc) (h1 := h1) (h2 := h2) (h3 := h3) (kk := kk)
  rw [hk]; exact h

/-- Waiting for block number `m`. -/
theorem go_recv (n m : ℕ) {hd : List Slot} (k : Ch) (hk : todo m = k :: todo (m + 1)) (hg : gotten (m + 1) = .rcv k :: gotten m)
    (hl : ∀ j ∈ left n, lvOf (.rcv k) < lvOf j.code) {s : DmaSem sig} {src dst : Memref sig .tc .vmem S256x1024 .bf16}
    (hs : s = rcvS k) (hdst : dst = dstM k) {h1 : src.view.WordExact} {h2 : dst.view.WordExact}
    {kk : PUnit → Prog (TpuEff nD τ sig (Elt F) Λ₀ .tc) α} :
    iprop(Know P κ ∗ Going P c n m hd)
      ⊢ iprop(((Going P c n (m + 1) hd ∗ owns (c : Thread nD τ) (dstM k) fullShare (val P k (org k c)))
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst h1 h2) kk) Q) := by
  unfold Going; rw [hg]
  have h := st_recv P κ c (Q := Q) (d := left n) (i := todo n) (w := todo (m + 1)) (fl := flown n) (z := gotten m) (rt := []) (hd := hd)
    k hl hs hdst (src := src) (h1 := h1) (h2 := h2) (kk := kk)
  rw [hk]; exact h

/-- A slot joins those at hand. -/
theorem go_keep {n m : ℕ} {hd : List Slot} (s : Slot) : iprop(Going P c n m hd ∗ slotOf P c s) ⊢ Going P c n m (s :: hd) := st_keep P c s

/-- The last block received: what is left is to wait for the copies. -/
theorem go_end {hd : List Slot} : Going P c 16 16 hd ⊢ Ending P c 0 hd := by
  have hf := list_perm (show (flown 16).Perm (sndOrd.drop 0) by decide) (sndFly (F := F) c)
  show iprop(owe c exDebts ∗ bigSepL [] (fun k => iprop(sndIdle c k ∗ room (F := F) c k)) ∗ bigSepL [] (rcvWait c) ∗ bigSepL (flown 16) (sndFly c)
    ∗ bigSepL (gotten 16) (zero c) ∗ bigSepL [] (sndPay P c) ∗ bigSepL hd (slotOf P c)) ⊢ _
  exact sep_mono_right (sep_mono_right (sep_mono_right (sep_mono_left hf)))

/-- Waiting for copy number `s`. -/
theorem end_sent (s : ℕ) {hd : List Slot} (k : Ch) (hk : sndOrd.drop s = k :: sndOrd.drop (s + 1)) (ht : (sndOrd.take (s + 1)).reverse = k :: (sndOrd.take s).reverse)
    {sm : DmaSem sig} {src dst : Memref sig .tc .vmem S256x1024 .bf16}
    (hs : sm = sndS k) (hdst : dst = srcM k) {h1 : src.view.WordExact} {h2 : dst.view.WordExact}
    {kk : PUnit → Prog (TpuEff nD τ sig (Elt F) Λ₀ .tc) α} :
    iprop(Know P κ ∗ Ending P c s hd)
      ⊢ iprop((Ending P c (s + 1) hd
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm src dst h1 h2) kk) Q) := by
  unfold Ending; rw [ht]
  exact st_sent P κ c k (fl := sndOrd.drop s) (by rw [hk]) (fun j hj => by
    have : ∀ j ∈ exDebts, (0 : ℕ) < lvOf j.code := by decide
    exact this j hj) hs hdst

/-- Contents shared between two holders. -/
theorem halves (M : Memref sig .tc .vmem S256x1024 .bf16) (q : PosShare TreeShare) (X : S256x1024.Idx → Elt F .bf16) :
    (owns (c : Thread nD τ) M q X : sProp 𝕄) ⊢ iprop(owns (c : Thread nD τ) M q.left X ∗ owns (c : Thread nD τ) M q.right X) :=
  (owns_halves (c : Thread nD τ) M q X).1

/-- A received slot at hand is the share kept of it. -/
theorem slot_got (k : Ch) : slotOf P c (.got k) = (owns (c : Thread nD τ) (dstM k) (keepShare k) (val P k (org k c)) : sProp 𝕄) := rfl

/-- A buffer that is passed on: half goes with the copy, half stays to be read. -/
theorem pass_on (k₀ k : Ch) (hs : srcM k = dstM k₀) (hq : qs k = fullShare.left) (hk : keepShare k₀ = fullShare.right) (hv : val P k c = val P k₀ (org k₀ c)) :
    owns (c : Thread nD τ) (dstM k₀) fullShare (val P k₀ (org k₀ c))
      ⊢ iprop(owns (c : Thread nD τ) (srcM k) (qs k) (val P k c) ∗ slotOf P c (.got k₀)) := by
  show _ ⊢ iprop(_ ∗ (owns (c : Thread nD τ) (dstM k₀) (keepShare k₀) (val P k₀ (org k₀ c)) : sProp 𝕄))
  rw [hs, hq, hk, hv]
  exact halves c (dstM k₀) fullShare (val P k₀ (org k₀ c))
/-- The device's own sum goes both ways. -/
theorem both_ways (ch : Fin 2) :
    owns (c : Thread nD τ) (rbM ch) fullShare (rb P c ch)
      ⊢ iprop((owns (c : Thread nD τ) (srcM (.f 0 ch)) (qs (.f 0 ch)) (val P (.f 0 ch) c) : sProp 𝕄) ∗ (owns (c : Thread nD τ) (srcM (.b 0 ch)) (qs (.b 0 ch)) (val P (.b 0 ch) c) : sProp 𝕄)) :=
  halves c (rbM ch) fullShare (rb P c ch)
/-- What goes to the partner is kept by half. -/
theorem to_partner (ch : Fin 2) :
    owns (c : Thread nD τ) (ysM ch) fullShare (yv P c ch)
      ⊢ iprop((owns (c : Thread nD τ) (srcM (.y ch)) (qs (.y ch)) (val P (.y ch) c) : sProp 𝕄) ∗ slotOf P c (.ys ch)) :=
  halves c (ysM ch) fullShare (yv P c ch)

/-- What came from the partner, before and after it is read. -/
theorem from_partner (ch : Fin 2) :
    (owns (c : Thread nD τ) (dstM (.y ch)) fullShare (val P (.y ch) (org (.y ch) c)) : sProp 𝕄) ⊢ owns (c : Thread nD τ) (yrM ch) fullShare (yv P (oth c) ch) := .rfl
theorem got_partner (ch : Fin 2) :
    (owns (c : Thread nD τ) (yrM ch) fullShare (yv P (oth c) ch) : sProp 𝕄) ⊢ slotOf P c (.got (.y ch)) := .rfl
/-- The last block to come on a line of channels is not passed on. -/
theorem last_f (ch : Fin 2) :
    (owns (c : Thread nD τ) (dstM (.f 3 ch)) fullShare (val P (.f 3 ch) (org (.f 3 ch) c)) : sProp 𝕄) ⊢ slotOf P c (.got (.f 3 ch)) := .rfl
/-- The right-going line's last block, before it is read -/
theorem far_in :
    (owns (c : Thread nD τ) (dstM (.f 3 1)) fullShare (val P (.f 3 1) (org (.f 3 1) c)) : sProp 𝕄) ⊢ owns (c : Thread nD τ) (fM 3 1) fullShare (val P (.f 3 1) (org (.f 3 1) c)) := .rfl
/-- and after it. -/
theorem far_out :
    (owns (c : Thread nD τ) (fM 3 1) fullShare (val P (.f 3 1) (org (.f 3 1) c)) : sProp 𝕄) ⊢ slotOf P c (.got (.f 3 1)) := .rfl
/-- Nor is the last block of the left-going line. -/
theorem last_b (ch : Fin 2) :
    (owns (c : Thread nD τ) (dstM (.b 2 ch)) fullShare (val P (.b 2 ch) (org (.b 2 ch) c)) : sProp 𝕄) ⊢ slotOf P c (.got (.b 2 ch)) := .rfl

/-- What is stored for a block that came forward, -/
theorem blk_f (h : Fin 4) (ch : Fin 2) : extf .f32 (val P (.f h ch) (org (.f h ch) c)) bitsLt_bf16_f32 = Gblk P c (7 - h.val) ch := by
  have := prv_iter c ⟨h.val + 1, by omega⟩
  rw [Function.iterate_succ_apply] at this
  rw [Gblk, if_neg (by omega)]
  show extf .f32 (rb P (prv^[h.val] (prv c)) ch) _ = _
  rw [this]
  have e : 8 - (h.val + 1) = 7 - h.val := by omega
  simp only [e]
/-- or backward. -/
theorem blk_b (h : Fin 3) (ch : Fin 2) : extf .f32 (val P (.b h ch) (org (.b h ch) c)) bitsLt_bf16_f32 = Gblk P c (1 + h.val) ch := by
  have := nxt_iter c ⟨h.val + 1, by omega⟩
  rw [Function.iterate_succ_apply] at this
  rw [Gblk, if_neg (by omega)]
  show extf .f32 (rb P (nxt^[h.val] (nxt c)) ch) _ = _
  rw [this]
  have e : h.val + 1 = 1 + h.val := by omega
  simp only [e]

end Steps

end Cert.KernelIdeal.Ring
-- ==== Proof.KernelIdeal.Body.lean ====
/-
  The kernel body of device `c`, stepped through once: what it needs at the start, what it leaves at the end, and what is in
  the output buffer then.
-/
module

public import proofs.«01_k».proof.Proof.KernelIdeal.State

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → S256x2048.Idx → Elt F .f32) (κ : GSem nD τ sig → ℕ)

/-- The kernel body at two staged windows. -/
abbrev theBody (arg0 : Memref sig .tc .vmem S256x2048 .f32) (h0 : arg0.IsWhole) (arg1 : Memref sig .tc .vmem S2048x2048 .f32) (h1 : arg1.IsWhole) :
    Prog (TpuEff nD τ sig (Elt F) Λ₀ .tc) PUnit :=
  cc0_body arg0 h0 arg1 h1 (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9 cc0_scratch10 cc0_scoped0

/-! ## The barrier -/

/-- The channels of each direction. -/
def chans : Fin 3 → List Ch
  | 0 => [.f 0 0, .f 0 1, .f 1 0, .f 1 1, .f 2 0, .f 2 1, .f 3 0, .f 3 1]
  | 1 => [.b 0 0, .b 0 1, .b 1 0, .b 1 1, .b 2 0, .b 2 1]
  | 2 => [.y 0, .y 1]

/-- Every channel listed for a direction goes that way. -/
theorem chans_dir : ∀ d, ∀ k ∈ chans d, dir k = d := by decide
theorem chans_set : ∀ d, (Finset.univ.filter fun k : Ch => dir k = d) = (chans d).toFinset := by decide
theorem chans_nodup : ∀ d, (chans d).Nodup := by decide
theorem chans_all : (chans 2 ++ (chans 0 ++ chans 1)).Perm allCh := by decide

/-- What one neighbour's barrier signal brings. -/
theorem room_of (c : Dev nD) (d : Fin 3) :
    barPay (F := F) c d ⊢ iprop(bigSepL (chans d) (room (F := F) c) ∗ reached ER (cell (inv d c) .ex) 0) := by
  unfold barPay
  refine sep_mono_left ?_
  rw [bigSep_eq_bigSepL_of_eq _ (chans_set d) (chans_nodup d)]
  refine bigSepL_mono fun k hk => ?_
  have := chans_dir d k hk
  subst this
  exact .rfl

/-- Three assertions listed, as their conjunction. -/
theorem three (Φ : Fin 3 → sProp (MT nD τ sig Unit (Elt F) ℕ UU ℕ)) : bigSepL [0, 1, 2] Φ ⊢ iprop(Φ 0 ∗ Φ 1 ∗ Φ 2) := .rfl

/-- What the three barrier signals bring together. -/
theorem meet (c : Dev nD) :
    bigSep (dutiesOf .bar) (payOf P c .bar)
      ⊢ iprop(bigSepL allCh (room (F := F) c) ∗ reached ER (cell (nbr 0 c) .ex) 0 ∗ reached ER (cell (nbr 1 c) .ex) 0 ∗ reached ER (cell (nbr 2 c) .ex) 0) := by
  show bigSep Finset.univ (barPay (F := F) c) ⊢ _
  rw [bigSep_univ_eq_bigSepL [0, 1, 2] (by decide) (by decide)]
  refine .trans ?_ (sep_mono_left (list_perm chans_all _))
  rw [bigSepL_append, bigSepL_append]
  refine (three _).trans ?_
  iintro ⟨H0, H1, H2⟩
  ihave H0 := (room_of c 0) $$ H0
  ihave H1 := (room_of c 1) $$ H1
  ihave H2 := (room_of c 2) $$ H2
  icases H0 with ⟨A0, B0⟩
  icases H1 with ⟨A1, B1⟩
  icases H2 with ⟨A2, B2⟩
  isplitl [A0 A1 A2]
  · isplitl [A2]; · iexact A2
    isplitl [A0] <;> iassumption
  isplitl [B1]; · iexact B1
  isplitl [B0]; · iexact B0
  iexact B2

/-- Over a list, two assertions for each are both for all. -/
theorem list_sep {ι : Type} (l : List ι) (Φ Ψ : ι → sProp (MT nD τ sig Unit (Elt F) ℕ UU ℕ)) :
    iprop(bigSepL l Φ ∗ bigSepL l Ψ) ⊢ bigSepL l fun i => iprop(Φ i ∗ Ψ i) := by
  induction l with
  | nil => exact (Laws.sep_emp).1
  | cons a l ih =>
    rw [bigSepL_cons', bigSepL_cons', bigSepL_cons']
    iintro ⟨⟨H1, H2⟩, H3, H4⟩
    isplitl [H1 H3]
    · isplitl [H1] <;> iassumption
    · iapply ih; isplitl [H2] <;> iassumption

/-! ## The body -/

/-- What device `c` holds when the body starts. -/
def Start (c : Dev nD) : sProp 𝕄 :=
  iprop(owe (F := F) c allDebts ∗ bigSepL allCh (sndIdle (F := F) c) ∗ bigSepL allCh (rcvWait (F := F) c)
    ∗ (atPos ER (cell c .bar) 0 ∅ 0 ∗ cred (tallyAt (cell c .bar) () 3))
    ∗ (atPos ER (cell c .ex) 0 ∅ 0 ∗ cred (tallyAt (cell c .ex) () 3))
    ∗ (bigSepL [0, 1, 2] fun d : Fin 3 => iprop(dutyTok ER (cell (nbr d c) .bar) 0 d ∗ barPay (F := F) (nbr d c) d ∗ reached ER (cell (nbr d c) .bar) 0))
    ∗ (bigSepL [0, 1, 2] fun d : Fin 3 => dutyTok ER (cell (nbr d c) .ex) 0 d)
    ∗ someAt (F := F) c (ysM 0) fullShare ∗ someAt (F := F) c (ysM 1) fullShare ∗ someAt (F := F) c (rbM 0) fullShare ∗ someAt (F := F) c (rbM 1) fullShare)

/-- The state right after the barrier. -/
theorem go_start (c : Dev nD) :
    iprop(owe (F := F) c (left 0) ∗ bigSepL allCh (sndIdle (F := F) c) ∗ bigSepL allCh (room (F := F) c) ∗ bigSepL allCh (rcvWait (F := F) c)) ⊢ Going P c 0 0 [] := by
  show _ ⊢ iprop(owe c (left 0) ∗ bigSepL allCh (fun k => iprop(sndIdle c k ∗ room (F := F) c k)) ∗ bigSepL allCh (rcvWait c) ∗ emp ∗ emp ∗ emp ∗ emp)
  iintro ⟨Ho, Hs, Hr, Hw⟩
  isplitl [Ho]; · iexact Ho
  isplitl [Hs Hr]; · iapply (list_sep _ _ _); isplitl [Hs] <;> iassumption
  isplitl [Hw]; · iexact Hw
  isplitl []; · iempintro
  isplitl []; · iempintro
  isplitl []; · iempintro
  iempintro

/-- The blocks stored, last first. -/
def allBlocks : List (ℕ × Fin 2) :=
  [(4, 1), (4, 0), (3, 1), (5, 1), (3, 0), (5, 0), (2, 1), (6, 1), (2, 0), (6, 0), (1, 1), (7, 1), (1, 0), (7, 0), (0, 1), (0, 0)]

/-- What it holds when the body has ended. -/
def Done (c : Dev nD) : sProp 𝕄 :=
  iprop(owe (F := F) c [] ∗ bigSepL allCells (zero (F := F) c) ∗ bigSepL allCh (sndPay P c)
    ∗ bigSepL ([.ys 0, .ys 1] ++ allCh.map Slot.got) (slotOf P c))

variable (c : Dev nD)

section Signals
variable {α : Type} {Q : α → sProp (MT nD τ sig Unit (Elt F) ℕ UU ℕ)} {l : List Debt}

/-- Telling a neighbour at the barrier that the device is ready for it; -/
theorem bar_signal (d : Fin 3) {e : Dev nD} {s : Sem sig} (he : e = nbr d c) (hs : s = barS) {k : PUnit → Prog (TpuEff nD τ sig (Elt F) Λ₀ .tc) α} :
    iprop(Know P κ ∗ owe (F := F) c (.bar d :: l) ∗ dutyTok ER (cell (nbr d c) .bar) 0 d ∗ barPay (F := F) (nbr d c) d ∗ reached ER (cell (nbr d c) .bar) 0)
      ⊢ iprop((owe (F := F) c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (e : Thread nD τ) s 1) k) Q) :=
  signal_step P κ c (x := .bar) (.bar d) d he (congrArg SemLoc.reg hs) rfl rfl (Finset.mem_univ _) rfl
/-- and at the end that it is through. -/
theorem ex_signal (d : Fin 3) {e : Dev nD} {s : Sem sig} (he : e = nbr d c) (hs : s = exS) {k : PUnit → Prog (TpuEff nD τ sig (Elt F) Λ₀ .tc) α} :
    iprop(Know P κ ∗ owe (F := F) c (.ex d :: l) ∗ dutyTok ER (cell (nbr d c) .ex) 0 d ∗ reached ER (cell (nbr d c) .ex) 0)
      ⊢ iprop((owe (F := F) c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (e : Thread nD τ) s 1) k) Q) := by
  refine .trans ?_ (signal_step P κ c (x := .ex) (.ex d) d he (congrArg SemLoc.reg hs) rfl rfl (Finset.mem_univ _) rfl)
  iintro ⟨#HK, Ho, Hd, Hr⟩
  isplitr; · iexact HK
  isplitl [Ho]; · iexact Ho
  isplitl [Hd]; · iexact Hd
  isplitr
  · rw [show payOf P (nbr d c) .ex d = (iprop(emp) : sProp 𝕄) from rfl]
    iempintro
  · iexact Hr
/-- The wait at the barrier: from then on every buffer the device sends into is its own to send into. -/
theorem bar_wait (hl : ∀ j ∈ l, lvOf .bar < lvOf j.code) {s : Sem sig} (hs : s = barS) {k : PUnit → Prog (TpuEff nD τ sig (Elt F) Λ₀ .tc) α} :
    iprop(Know P κ ∗ owe (F := F) c l ∗ atPos ER (cell c .bar) 0 ∅ 0 ∗ cred (tallyAt (cell c .bar) () 3))
      ⊢ iprop(((owe (F := F) c l ∗ zero (F := F) c .bar ∗ bigSepL allCh (room (F := F) c)
            ∗ reached ER (cell (nbr 0 c) .ex) 0 ∗ reached ER (cell (nbr 1 c) .ex) 0 ∗ reached ER (cell (nbr 2 c) .ex) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s 3) k) Q) := by
  subst hs
  iintro ⟨#HK, Ho, Ha, Hc⟩ Hk
  iapply (drain_step P κ c .bar hl (w := .semWait barS 3) (n := 3) (fun _ => rfl) rfl) $$ [Ho Ha Hc]
  · isplitr; · iexact HK
    isplitl [Ho]; · iexact Ho
    isplitl [Ha] <;> iassumption
  iintro ⟨Ho, Hz, Hp⟩
  ihave Hp := (meet P c) $$ Hp
  iapply Hk
  isplitl [Ho]; · iexact Ho
  isplitl [Hz]; · iexact Hz
  iexact Hp
/-- The wait at the end. -/
theorem ex_wait (hl : ∀ j ∈ l, lvOf .ex < lvOf j.code) {s : Sem sig} (hs : s = exS) {k : PUnit → Prog (TpuEff nD τ sig (Elt F) Λ₀ .tc) α} :
    iprop(Know P κ ∗ owe (F := F) c l ∗ atPos ER (cell c .ex) 0 ∅ 0 ∗ cred (tallyAt (cell c .ex) () 3))
      ⊢ iprop(((owe (F := F) c l ∗ zero (F := F) c .ex)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s 3) k) Q) := by
  subst hs
  iintro ⟨#HK, Ho, Ha, Hc⟩ Hk
  iapply (drain_step P κ c .ex hl (w := .semWait exS 3) (n := 3) (fun _ => rfl) rfl) $$ [Ho Ha Hc]
  · isplitr; · iexact HK
    isplitl [Ho]; · iexact Ho
    isplitl [Ha] <;> iassumption
  iintro ⟨Ho, Hz, -⟩
  iapply Hk
  isplitl [Ho] <;> iassumption

/-- Passing on the block that came on channel `k₀`. -/
theorem go_pass (n : ℕ) {m : ℕ} {hd : List Slot} (k₀ k : Ch) (hk : todo n = k :: todo (n + 1)) (hf : flown (n + 1) = k :: flown n)
    (hs₀ : srcM k = dstM k₀) (hq₀ : qs k = fullShare.left) (hk₀ : keepShare k₀ = fullShare.right) (hv₀ : val P k c = val P k₀ (org k₀ c))
    {e : Dev nD} {src dst : Memref sig .tc .vmem S256x1024 .bf16} {sS sR : DmaSem sig}
    (he : e = tgt k c) (hsrc : src = srcM k) (hdst : dst = dstM k) (hsS : sS = sndS k) (hsR : sR = rcvS k)
    {hsc : dst.view.ref.isScScratch = false} {h1 : src.view.WordExact} {h2 : dst.view.WordExact}
    {h3 : DmaTarget.Typed (τ := τ) (p := .tc) .vmem (.dma sR) (.remote (e : Thread nD τ) dst (.dma sS) hsc)}
    {kk : PUnit → Prog (TpuEff nD τ sig (Elt F) Λ₀ .tc) α} :
    iprop(Know P κ ∗ Going P c n m hd ∗ owns (c : Thread nD τ) (dstM k₀) fullShare (val P k₀ (org k₀ c)))
      ⊢ iprop(((Going P c (n + 1) m hd ∗ slotOf P c (.got k₀)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (e : Thread nD τ) dst (.dma sS) hsc) (.dma sR) h1 h2 h3) kk) Q) := by
  iintro ⟨#HK, HS, Hv⟩ Hk
  ihave Hv := (pass_on P c k₀ k hs₀ hq₀ hk₀ hv₀) $$ Hv
  icases Hv with ⟨Hv, Hw⟩
  iapply (go_copy P κ c n k hk hf he hsrc hdst hsS hsR) $$ [HS Hv]
  · isplitr; · iexact HK
    isplitl [HS] <;> iassumption
  iintro HS
  iapply Hk
  isplitl [HS] <;> iassumption

/-- Copying a received block into the output: it is read, and stored widened in its place. -/
theorem show_block {n m : ℕ} {hd : List Slot} (k : Ch) (r : ℕ) (hr : r < 8) (ch : Fin 2) {s : Shape} (M : Memref sig .tc .vmem s .bf16)
    (rc : Rect s) (hu : ∀ a, rc.stride a = 1) (hq : rc.shape.Squeezes S256x1024) (hc : rc.shape.ShapeCasts S256x1024)
    (hM : dstM k = (M.slice rc hu).squeeze S256x1024 hq) (hblk : extf .f32 (val P k (org k c)) bitsLt_bf16_f32 = Gblk P c r ch)
    {arg1 : Memref sig .tc .vmem S2048x2048 .f32} {S : List (ℕ × Fin 2)} {off : Fin 2 → ℕ}
    {inb : ∀ a, off a + S256x1024.size a ≤ S2048x2048.size a} (hoff : off = offAt (pos c + r) ch)
    {g : (rc.shape.Idx → Elt F .bf16) → FVec F S256x1024 .f32} (hg : ∀ x, g x = extf .f32 (shapeCast S256x1024 x hc) bitsLt_bf16_f32)
    {hl : M.view.LoadsAt rc.toLoadRect} {hl' : arg1.view.LoadsAt (Rect.unit (s := S2048x2048) off S256x1024.size inb).toLoadRect}
    {hx : (arg1.access (Rect.unit (s := S2048x2048) off S256x1024.size inb)).Stores Finset.univ} {hm}
    {kk : PUnit → Prog (TpuEff nD τ sig (Elt F) Λ₀ .tc) α} :
    iprop(Going P c n m hd ∗ slotOf P c (.got k) ∗ ownsSat (c : Thread nD τ) arg1 fullShare (Out P c S))
      ⊢ iprop(((Going P c n m (.got k :: hd) ∗ ownsSat (c : Thread nD τ) arg1 fullShare (Out P c ((r, ch) :: S)))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.load M rc.toLoadRect hl) fun x => .op (.load arg1 (Rect.unit (s := S2048x2048) off S256x1024.size inb).toLoadRect hl') fun _ =>
              .op (.store arg1 (Rect.unit (s := S2048x2048) off S256x1024.size inb) (g x) Finset.univ hx hm) kk) Q) := by
  iintro ⟨HS, Hv, Hout⟩ Hk
  ihave Hv : owns (c : Thread nD τ) ((M.slice rc hu).squeeze S256x1024 hq) (keepShare k) (val P k (org k c)) $$ [Hv]
  · rw [← hM]; iapply (Entails.of_eq (slot_got P c k)) $$ Hv
  iapply (load_slot c M rc hu hq hc (keepShare k) (val P k (org k c))) $$ Hv
  iintro %x %hxv Hv
  iapply (load_out c arg1 _ fullShare (Out P c S)) $$ Hout
  iintro %_ Hout
  iapply (out_step P c arg1 r hr ch hoff (by rw [hg, hxv, hblk])) $$ Hout
  iintro Hout
  iapply Hk
  isplitr [Hout]
  · iapply (go_keep P c (.got k))
    isplitl [HS]; · iexact HS
    rw [← hM]; iapply (Entails.of_eq (slot_got P c k).symm) $$ Hv
  · iexact Hout
/-- So for a block that came forward, -/
theorem show_f {n m : ℕ} {hd : List Slot} (h : Fin 4) (ch : Fin 2)
    {arg1 : Memref sig .tc .vmem S2048x2048 .f32} {S : List (ℕ × Fin 2)} {off : Fin 2 → ℕ}
    {inb : ∀ a, off a + S256x1024.size a ≤ S2048x2048.size a} (hoff : off = offAt (pos c + (7 - h.val)) ch)
    {g : ((r4f h ch).shape.Idx → Elt F .bf16) → FVec F S256x1024 .f32} (hg : ∀ x, g x = extf .f32 (shapeCast S256x1024 x shapeCasts_S1x1x256x1024_S256x1024) bitsLt_bf16_f32)
    {hl : (Memref.whole cc0_scratch3 : Memref sig .tc .vmem S4x2x256x1024 .bf16).view.LoadsAt (r4f h ch).toLoadRect} {hl' : arg1.view.LoadsAt (Rect.unit (s := S2048x2048) off S256x1024.size inb).toLoadRect}
    {hx : (arg1.access (Rect.unit (s := S2048x2048) off S256x1024.size inb)).Stores Finset.univ} {hm}
    {kk : PUnit → Prog (TpuEff nD τ sig (Elt F) Λ₀ .tc) α} :
    iprop(Going P c n m hd ∗ slotOf P c (.got (.f h ch)) ∗ ownsSat (c : Thread nD τ) arg1 fullShare (Out P c S))
      ⊢ iprop(((Going P c n m (.got (.f h ch) :: hd) ∗ ownsSat (c : Thread nD τ) arg1 fullShare (Out P c ((7 - h.val, ch) :: S)))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.load (Memref.whole cc0_scratch3) (r4f h ch).toLoadRect hl) fun x => .op (.load arg1 (Rect.unit (s := S2048x2048) off S256x1024.size inb).toLoadRect hl') fun _ =>
              .op (.store arg1 (Rect.unit (s := S2048x2048) off S256x1024.size inb) (g x) Finset.univ hx hm) kk) Q) :=
  show_block P c (.f h ch) (7 - h.val) (by omega) ch (Memref.whole cc0_scratch3) (r4f h ch) (fun _ => rfl) squeezes_S1x1x256x1024_S256x1024 _ rfl (blk_f P c h ch) hoff hg
/-- and for one that came backward. -/
theorem show_b {n m : ℕ} {hd : List Slot} (h : Fin 3) (ch : Fin 2)
    {arg1 : Memref sig .tc .vmem S2048x2048 .f32} {S : List (ℕ × Fin 2)} {off : Fin 2 → ℕ}
    {inb : ∀ a, off a + S256x1024.size a ≤ S2048x2048.size a} (hoff : off = offAt (pos c + (1 + h.val)) ch)
    {g : ((r4b h ch).shape.Idx → Elt F .bf16) → FVec F S256x1024 .f32} (hg : ∀ x, g x = extf .f32 (shapeCast S256x1024 x shapeCasts_S1x1x256x1024_S256x1024) bitsLt_bf16_f32)
    {hl : (Memref.whole cc0_scratch4 : Memref sig .tc .vmem S3x2x256x1024 .bf16).view.LoadsAt (r4b h ch).toLoadRect} {hl' : arg1.view.LoadsAt (Rect.unit (s := S2048x2048) off S256x1024.size inb).toLoadRect}
    {hx : (arg1.access (Rect.unit (s := S2048x2048) off S256x1024.size inb)).Stores Finset.univ} {hm}
    {kk : PUnit → Prog (TpuEff nD τ sig (Elt F) Λ₀ .tc) α} :
    iprop(Going P c n m hd ∗ slotOf P c (.got (.b h ch)) ∗ ownsSat (c : Thread nD τ) arg1 fullShare (Out P c S))
      ⊢ iprop(((Going P c n m (.got (.b h ch) :: hd) ∗ ownsSat (c : Thread nD τ) arg1 fullShare (Out P c ((1 + h.val, ch) :: S)))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.load (Memref.whole cc0_scratch4) (r4b h ch).toLoadRect hl) fun x => .op (.load arg1 (Rect.unit (s := S2048x2048) off S256x1024.size inb).toLoadRect hl') fun _ =>
              .op (.store arg1 (Rect.unit (s := S2048x2048) off S256x1024.size inb) (g x) Finset.univ hx hm) kk) Q) :=
  show_block P c (.b h ch) (1 + h.val) (by omega) ch (Memref.whole cc0_scratch4) (r4b h ch) (fun _ => rfl) squeezes_S1x1x256x1024_S256x1024 _ rfl (blk_b P c h ch) hoff hg
end Signals

/-! The values stored by the first steps. -/

/-- What the body rounds and stores for its partner is the schedule's payload. -/
theorem pay_y (ch : Fin 2) (h : S256x1024.ShapeCasts S256x1024) :
    truncf .bf16 (shapeCast S256x1024 (fun j => P c ((rP ch).emb j)) h) bitsLt_bf16_f32 = yv P c ch := by
  show truncf .bf16 (shapeCast S256x1024 (pch P c ch) h) bitsLt_bf16_f32 = _
  rw [shapeCast_self]; rfl
/-- What it adds up from its own chunk and its partner's is the schedule's sum. -/
theorem pay_red (ch : Fin 2) (h : S256x1024.ShapeCasts S256x1024) {x : FVec F S256x1024 .bf16} (hx : x = yv P (oth c) ch) :
    addf (shapeCast S256x1024 (fun j => P c ((rP ch).emb j)) h) (extf .f32 x bitsLt_bf16_f32) = red P c ch := by
  show addf (shapeCast S256x1024 (pch P c ch) h) _ = _
  rw [shapeCast_self, hx]; rfl
/-- A landed block, cast up and reshaped, is that block cast up. -/
theorem pay_up {s : Shape} (v : FVec F S256x1024 .bf16) (h : S256x1024.ShapeCasts s) (h' : s.ShapeCasts S256x1024) :
    shapeCast S256x1024 (shapeCast s v h) h' = v := by
  rw [shapeCast_shapeCast]

variable {Q : PUnit → sProp (MT nD τ sig Unit (Elt F) ℕ UU ℕ)}

/-- The slots kept, last first. -/
abbrev kept : List Slot :=
  [.got (.f 3 1), .got (.f 3 0), .got (.b 2 1), .got (.f 2 1), .got (.b 2 0), .got (.f 2 0), .got (.b 1 1), .got (.f 1 1), .got (.b 1 0),
    .got (.f 1 0), .got (.b 0 1), .got (.f 0 1), .got (.b 0 0), .got (.f 0 0), .got (.y 1), .got (.y 0), .ys 1, .ys 0]
/-- The state when every copy has left. -/
def Ended (c : Dev nD) (hd : List Slot) : sProp 𝕄 :=
  iprop(bigSepL ((sndOrd.take 16).reverse.map Cell.snd ++ gotten 16) (zero (F := F) c) ∗ bigSepL (sndOrd.take 16).reverse (sndPay P c) ∗ bigSepL hd (slotOf P c))
/-- Once everything is back the device owes the exit signals only. -/
theorem ending_owe {hd : List Slot} : Ending P c 16 hd ⊢ iprop(owe (F := F) c exDebts ∗ Ended P c hd) := by
  show iprop(owe (F := F) c exDebts ∗ emp ∗ emp ∗ emp ∗ Ended P c hd) ⊢ _
  iintro ⟨Ho, -, -, -, H⟩
  isplitl [Ho] <;> iassumption
/-- When nothing is owed and everything is back, the device has what it is to leave. -/
theorem finish :
    iprop(owe (F := F) c [] ∗ zero (F := F) c .bar ∗ zero (F := F) c .ex ∗ Ended P c kept) ⊢ Done P c := by
  have h1 := list_perm (show (Cell.bar :: .ex :: ((sndOrd.take 16).reverse.map Cell.snd ++ gotten 16)).Perm allCells by decide) (zero (F := F) c)
  rw [bigSepL_cons', bigSepL_cons'] at h1
  have h2 := list_perm (show (sndOrd.take 16).reverse.Perm allCh by decide) (sndPay P c)
  have h3 := list_perm (show kept.Perm ([.ys 0, .ys 1] ++ allCh.map Slot.got) by decide) (slotOf P c)
  unfold Ended Done
  iintro ⟨Ho, Hb, He, Hz, Hs, Hh⟩
  isplitl [Ho]; · iexact Ho
  isplitl [Hb He Hz]
  · iapply h1
    isplitl [Hb]; · iexact Hb
    isplitl [He] <;> iassumption
  isplitl [Hs]
  · iapply h2 $$ Hs
  · iapply h3 $$ Hh

/-- The first part reads the device's number and computes words, of which nothing is used. -/
theorem part1_wp {R : (Σ' (_ : Dev nD) (_ : BitVec 32) (_ : BitVec 32) (_ : BitVec 32) (_ : BitVec 32) (_ : BitVec 32) (_ : BitVec 32) (_ : BitVec 32) (_ : BitVec 32) (_ : BitVec 1) (_ : BitVec 1), BitVec 32) → sProp (MT nD τ sig Unit (Elt F) ℕ UU ℕ)}
    (arg0 : Memref sig .tc .vmem S256x2048 .f32) (h0 : arg0.IsWhole) (arg1 : Memref sig .tc .vmem S2048x2048 .f32) (h1 : arg1.IsWhole) :
    iprop(∀ a2 a5 a8 a11 a24 a27 a30 a31 a32 a33 a, R ⟨c, a2, a5, a8, a11, a24, a27, a30, a31, a32, a33, a⟩)
      ⊢ wp frame (wpE (defs₀ (F := F)) 𝒱₀ (c : Thread nD τ) none) Set.univ (k0_part1 arg0 h0 arg1 h1 (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8 cc0_scratch9 cc0_scratch10 cc0_scoped0) R := by
  rw [k0_part1_eq_skeleton]; unfold k0_part1_skel
  simp only [Prog.lift, Prog.bind_op, Prog.bind_ret, Prog.pure_eq_ret]
  rw [wp_deviceId, wp_ret]
  iintro H
  imodintro
  iapply H

set_option maxHeartbeats 4000000 in
/-- The kernel's body, from a device's entry to its end, leaves the gathered sums in the output. -/
theorem body_wp (arg0 : Memref sig .tc .vmem S256x2048 .f32) (h0 : arg0.IsWhole) (arg1 : Memref sig .tc .vmem S2048x2048 .f32) (h1 : arg1.IsWhole) :
    iprop(Know P κ ∗ Start (F := F) c ∗ owns (c : Thread nD τ) arg0 fullShare (P c) ∗ ownsSat (c : Thread nD τ) arg1 fullShare (fun _ => True))
      ⊢ iprop(((Done P c ∗ owns (c : Thread nD τ) arg0 fullShare (P c) ∗ ownsSat (c : Thread nD τ) arg1 fullShare (Out P c allBlocks)) -∗ Q ⟨⟩)
        -∗ wp frame (wpE (defs₀ (F := F)) 𝒱₀ (c : Thread nD τ) none) Set.univ (theBody arg0 h0 arg1 h1) Q) := by
  unfold Start theBody
  rw [cc0_body_eq_skeleton]; unfold cc0_body_skel
  simp only [wp_bind]
  rw [k0_part30_eq_skeleton]; unfold k0_part30_skel
  rw [wp_bind]
  iintro ⟨#HK, ⟨Ho, Hsi, Hrw, ⟨Hbp, Hbc⟩, ⟨Hep, Hec⟩, Hb, He, Hy0, Hy1, Hr0, Hr1⟩, HP, Hout⟩ HQ
  ihave Hb := (three _) $$ Hb
  ihave He := (three _) $$ He
  icases Hb with ⟨⟨Hb0, Hb0', Hb0''⟩, ⟨Hb1, Hb1', Hb1''⟩, Hb2, Hb2', Hb2''⟩
  icases He with ⟨He0, He1, He2⟩
  iapply (part1_wp c arg0 h0 arg1 h1)
  iintro %a2 %a5 %a8 %a11 %a24 %a27 %a30 %a31 %a32 %a33 %a
  dsimp only
  rw [wp_bind, k0_part2_eq_skeleton]; unfold k0_part2_skel
  simp only [Prog.lift, Prog.bind_op, Prog.bind_ret, Prog.pure_eq_ret, semSignalWord, semWaitWord]
  unfold allDebts
  iapply (bar_signal P κ c 0 (Fin.ext (dev1_eq c)) rfl) $$ [Ho Hb0 Hb0' Hb0'']
  · isplitr; · iexact HK
    isplitl [Ho]; · iexact Ho
    isplitl [Hb0]; · iexact Hb0
    isplitl [Hb0'] <;> iassumption
  iintro Ho
  iapply (bar_signal P κ c 1 (Fin.ext (dev2_eq c)) rfl) $$ [Ho Hb1 Hb1' Hb1'']
  · isplitr; · iexact HK
    isplitl [Ho]; · iexact Ho
    isplitl [Hb1]; · iexact Hb1
    isplitl [Hb1'] <;> iassumption
  iintro Ho
  iapply (bar_signal P κ c 2 (Fin.ext (dev3_eq c)) rfl) $$ [Ho Hb2 Hb2' Hb2'']
  · isplitr; · iexact HK
    isplitl [Ho]; · iexact Ho
    isplitl [Hb2]; · iexact Hb2
    isplitl [Hb2'] <;> iassumption
  iintro Ho
  iapply (bar_wait P κ c (l := left 0) (by decide) rfl) $$ [Ho Hbp Hbc]
  · isplitr; · iexact HK
    isplitl [Ho]; · iexact Ho
    isplitl [Hbp] <;> iassumption
  iintro ⟨Ho, Hzb, Hroom, Hx0, Hx1, Hx2⟩
  ihave HS : Going P c 0 0 [] $$ [Ho Hsi Hroom Hrw]
  · iapply (go_start P c)
    isplitl [Ho]; · iexact Ho
    isplitl [Hsi]; · iexact Hsi
    isplitl [Hroom]; · iexact Hroom
    iexact Hrw
  iapply (load_known c arg0 _ fullShare (P c)) $$ HP
  iintro HP
  rw [wp_ret]; imodintro
  rw [wp_bind, k0_part3_eq_skeleton]; unfold k0_part3_skel
  simp only [Prog.lift, Prog.bind_op, Prog.bind_ret, Prog.pure_eq_ret]
  iapply (load_any c (Memref.whole cc0_scratch0) (r3 0) (fun _ => rfl) squeezes_S1x256x1024_S256x1024) $$ Hy0
  iintro %_ Hy0
  iapply (store_slot c (Memref.whole cc0_scratch0) (r3 0) (fun _ => rfl) squeezes_S1x256x1024_S256x1024 shapeCasts_S1x256x1024_S256x1024 _ (yv P c 0)
    ((pay_up _ _ _).trans (pay_y P c 0 _))) $$ Hy0
  iintro Hy0
  ihave Hy0 := (to_partner P c 0) $$ Hy0
  icases Hy0 with ⟨Hy0, Hy0'⟩
  iapply (go_copy P κ c 0 (.y 0) rfl rfl (Fin.ext (dev4_eq c)) rfl rfl rfl rfl) $$ [HS Hy0]
  · isplitr; · iexact HK
    isplitl [HS] <;> iassumption
  iintro HS
  ihave HS : Going P c 1 0 [.ys 0] $$ [HS Hy0']
  · iapply (go_keep P c (.ys 0)); isplitl [HS] <;> iassumption
  iapply (load_known c arg0 _ fullShare (P c)) $$ HP
  iintro HP
  iapply (load_any c (Memref.whole cc0_scratch0) (r3 1) (fun _ => rfl) squeezes_S1x256x1024_S256x1024) $$ Hy1
  iintro %_ Hy1
  iapply (store_slot c (Memref.whole cc0_scratch0) (r3 1) (fun _ => rfl) squeezes_S1x256x1024_S256x1024 shapeCasts_S1x256x1024_S256x1024 _ (yv P c 1)
    ((pay_up _ _ _).trans (pay_y P c 1 _))) $$ Hy1
  iintro Hy1
  ihave Hy1 := (to_partner P c 1) $$ Hy1
  icases Hy1 with ⟨Hy1, Hy1'⟩
  rw [wp_ret]; imodintro
  rw [wp_bind, k0_part4_eq_skeleton]; unfold k0_part4_skel
  simp only [Prog.lift, Prog.bind_op, Prog.bind_ret, Prog.pure_eq_ret]
  iapply (go_copy P κ c 1 (.y 1) rfl rfl (Fin.ext (dev5_eq c)) rfl rfl rfl rfl) $$ [HS Hy1]
  · isplitr; · iexact HK
    isplitl [HS] <;> iassumption
  iintro HS
  ihave HS : Going P c 2 0 [.ys 1, .ys 0] $$ [HS Hy1']
  · iapply (go_keep P c (.ys 1)); isplitl [HS] <;> iassumption
  iapply (go_recv P κ c 2 0 (.y 0) rfl rfl (by decide) rfl rfl) $$ [HS]
  · isplitr <;> iassumption
  iintro ⟨HS, Hv⟩
  iapply (load_known c arg0 _ fullShare (P c)) $$ HP
  iintro HP
  ihave Hv := (from_partner P c 0) $$ Hv
  iapply (load_slot c (Memref.whole cc0_scratch1) (r3 0) (fun _ => rfl) squeezes_S1x256x1024_S256x1024 shapeCasts_S1x256x1024_S256x1024 fullShare (yv P (oth c) 0)) $$ Hv
  iintro %x0 %hx0 Hv
  ihave Hv := (got_partner P c 0) $$ Hv
  iapply (load_out c arg1 _ fullShare _) $$ Hout
  iintro %_ Hout
  iapply (out_step P c (S := []) arg1 0 (by decide) 0 (off1_eq c) (pay_red P c 0 _ hx0)) $$ [Hout]
  · iapply (ownsSat_mono (c : Thread nD τ) arg1 fullShare (fun _ _ _ h => absurd h List.not_mem_nil)) $$ Hout
  iintro Hout
  ihave HS : Going P c 2 1 [.got (.y 0), .ys 1, .ys 0] $$ [HS Hv]
  · iapply (go_keep P c (.got (.y 0))); isplitl [HS] <;> iassumption
  iapply (load_any c (Memref.whole cc0_scratch2) (r3 0) (fun _ => rfl) squeezes_S1x256x1024_S256x1024) $$ Hr0
  iintro %_ Hr0
  rw [wp_ret]; imodintro
  rw [wp_bind, k0_part5_eq_skeleton]; unfold k0_part5_skel
  simp only [Prog.lift, Prog.bind_op, Prog.bind_ret, Prog.pure_eq_ret]
  iapply (store_slot c (Memref.whole cc0_scratch2) (r3 0) (fun _ => rfl) squeezes_S1x256x1024_S256x1024 shapeCasts_S1x256x1024_S256x1024 _ (rb P c 0)
    ((pay_up _ _ _).trans (congrArg (fun v => truncf .bf16 v bitsLt_bf16_f32) (pay_red P c 0 _ hx0)))) $$ Hr0
  iintro Hr0
  ihave Hr0 := (both_ways P c 0) $$ Hr0
  icases Hr0 with ⟨Hr0, Hr0'⟩
  iapply (go_copy P κ c 2 (.f 0 0) rfl rfl (Fin.ext (dev6_eq c)) rfl rfl rfl rfl) $$ [HS Hr0]
  · isplitr; · iexact HK
    isplitl [HS] <;> iassumption
  iintro HS
  rw [wp_ret]; imodintro
  rw [wp_bind, k0_part6_eq_skeleton]; unfold k0_part6_skel
  simp only [Prog.lift, Prog.bind_op, Prog.bind_ret, Prog.pure_eq_ret]
  iapply (go_copy P κ c 3 (.b 0 0) rfl rfl (Fin.ext (dev7_eq c)) rfl rfl rfl rfl) $$ [HS Hr0']
  · isplitr; · iexact HK
    isplitl [HS] <;> iassumption
  iintro HS
  iapply (go_recv P κ c 4 1 (.y 1) rfl rfl (by decide) rfl rfl) $$ [HS]
  · isplitr <;> iassumption
  iintro ⟨HS, Hv⟩
  iapply (load_known c arg0 _ fullShare (P c)) $$ HP
  iintro HP
  ihave Hv := (from_partner P c 1) $$ Hv
  iapply (load_slot c (Memref.whole cc0_scratch1) (r3 1) (fun _ => rfl) squeezes_S1x256x1024_S256x1024 shapeCasts_S1x256x1024_S256x1024 fullShare (yv P (oth c) 1)) $$ Hv
  iintro %x1 %hx1 Hv
  ihave Hv := (got_partner P c 1) $$ Hv
  iapply (load_out c arg1 _ fullShare _) $$ Hout
  iintro %_ Hout
  iapply (out_step P c arg1 0 (by decide) 1 (off2_eq c) (pay_red P c 1 _ hx1)) $$ Hout
  iintro Hout
  ihave HS : Going P c 4 2 [.got (.y 1), .got (.y 0), .ys 1, .ys 0] $$ [HS Hv]
  · iapply (go_keep P c (.got (.y 1))); isplitl [HS] <;> iassumption
  iapply (load_any c (Memref.whole cc0_scratch2) (r3 1) (fun _ => rfl) squeezes_S1x256x1024_S256x1024) $$ Hr1
  iintro %_ Hr1
  iapply (store_slot c (Memref.whole cc0_scratch2) (r3 1) (fun _ => rfl) squeezes_S1x256x1024_S256x1024 shapeCasts_S1x256x1024_S256x1024 _ (rb P c 1)
    ((pay_up _ _ _).trans (congrArg (fun v => truncf .bf16 v bitsLt_bf16_f32) (pay_red P c 1 _ hx1)))) $$ Hr1
  iintro Hr1
  ihave Hr1 := (both_ways P c 1) $$ Hr1
  icases Hr1 with ⟨Hr1, Hr1'⟩
  rw [wp_ret]; imodintro
  rw [wp_bind, k0_part7_eq_skeleton]; unfold k0_part7_skel
  simp only [Prog.lift, Prog.bind_op, Prog.bind_ret, Prog.pure_eq_ret]
  iapply (go_copy P κ c 4 (.f 0 1) rfl rfl (Fin.ext (dev8_eq c)) rfl rfl rfl rfl) $$ [HS Hr1]
  · isplitr; · iexact HK
    isplitl [HS] <;> iassumption
  iintro HS
  iapply (go_copy P κ c 5 (.b 0 1) rfl rfl (Fin.ext (dev9_eq c)) rfl rfl rfl rfl) $$ [HS Hr1']
  · isplitr; · iexact HK
    isplitl [HS] <;> iassumption
  iintro HS
  rw [wp_ret]; imodintro
  rw [wp_bind, k0_part8_eq_skeleton]; unfold k0_part8_skel
  simp only [Prog.lift, Prog.bind_op, Prog.bind_ret, Prog.pure_eq_ret]
  rw [wp_ret]; imodintro
  rw [wp_bind, k0_part9_eq_skeleton]; unfold k0_part9_skel
  simp only [Prog.lift, Prog.bind_op, Prog.bind_ret, Prog.pure_eq_ret]
  iapply (go_recv P κ c 6 2 (.f 0 0) rfl rfl (by decide) rfl rfl) $$ [HS]
  · isplitr <;> iassumption
  iintro ⟨HS, Hv⟩
  iapply (go_pass P κ c 6 (.f 0 0) (.f 1 0) rfl rfl rfl rfl rfl rfl (Fin.ext (dev10_eq c)) rfl rfl rfl rfl) $$ [HS Hv]
  · isplitr; · iexact HK
    isplitl [HS] <;> iassumption
  iintro ⟨HS, Hv⟩
  iapply (show_f P c 0 0 (off3_eq c 0) (fun _ => rfl)) $$ [HS Hv Hout]
  · isplitl [HS]; · iexact HS
    isplitl [Hv] <;> iassumption
  iintro ⟨HS, Hout⟩
  rw [wp_ret]; imodintro
  rw [wp_bind, k0_part10_eq_skeleton]; unfold k0_part10_skel
  simp only [Prog.lift, Prog.bind_op, Prog.bind_ret, Prog.pure_eq_ret]
  iapply (go_recv P κ c 7 3 (.b 0 0) rfl rfl (by decide) rfl rfl) $$ [HS]
  · isplitr <;> iassumption
  iintro ⟨HS, Hv⟩
  iapply (go_pass P κ c 7 (.b 0 0) (.b 1 0) rfl rfl rfl rfl rfl rfl (Fin.ext (dev11_eq c)) rfl rfl rfl rfl) $$ [HS Hv]
  · isplitr; · iexact HK
    isplitl [HS] <;> iassumption
  iintro ⟨HS, Hv⟩
  iapply (show_b P c 0 0 (off4_eq c 0) (fun _ => rfl)) $$ [HS Hv Hout]
  · isplitl [HS]; · iexact HS
    isplitl [Hv] <;> iassumption
  iintro ⟨HS, Hout⟩
  rw [wp_ret]; imodintro
  rw [wp_bind, k0_part11_eq_skeleton]; unfold k0_part11_skel
  simp only [Prog.lift, Prog.bind_op, Prog.bind_ret, Prog.pure_eq_ret]
  iapply (go_recv P κ c 8 4 (.f 0 1) rfl rfl (by decide) rfl rfl) $$ [HS]
  · isplitr <;> iassumption
  iintro ⟨HS, Hv⟩
  iapply (go_pass P κ c 8 (.f 0 1) (.f 1 1) rfl rfl rfl rfl rfl rfl (Fin.ext (dev12_eq c)) rfl rfl rfl rfl) $$ [HS Hv]
  · isplitr; · iexact HK
    isplitl [HS] <;> iassumption
  iintro ⟨HS, Hv⟩
  rw [wp_ret]; imodintro
  rw [wp_bind, k0_part12_eq_skeleton]; unfold k0_part12_skel
  simp only [Prog.lift, Prog.bind_op, Prog.bind_ret, Prog.pure_eq_ret]
  iapply (show_f P c 0 1 (off5_eq c 0) (fun _ => rfl)) $$ [HS Hv Hout]
  · isplitl [HS]; · iexact HS
    isplitl [Hv] <;> iassumption
  iintro ⟨HS, Hout⟩
  iapply (go_recv P κ c 9 5 (.b 0 1) rfl rfl (by decide) rfl rfl) $$ [HS]
  · isplitr <;> iassumption
  iintro ⟨HS, Hv⟩
  rw [wp_ret]; imodintro
  rw [wp_bind, k0_part13_eq_skeleton]; unfold k0_part13_skel
  simp only [Prog.lift, Prog.bind_op, Prog.bind_ret, Prog.pure_eq_ret]
  iapply (go_pass P κ c 9 (.b 0 1) (.b 1 1) rfl rfl rfl rfl rfl rfl (Fin.ext (dev13_eq c)) rfl rfl rfl rfl) $$ [HS Hv]
  · isplitr; · iexact HK
    isplitl [HS] <;> iassumption
  iintro ⟨HS, Hv⟩
  iapply (show_b P c 0 1 (off6_eq c 0) (fun _ => rfl)) $$ [HS Hv Hout]
  · isplitl [HS]; · iexact HS
    isplitl [Hv] <;> iassumption
  iintro ⟨HS, Hout⟩
  rw [wp_ret]; imodintro
  rw [wp_bind, k0_part14_eq_skeleton]; unfold k0_part14_skel
  simp only [Prog.lift, Prog.bind_op, Prog.bind_ret, Prog.pure_eq_ret]
  iapply (go_recv P κ c 10 6 (.f 1 0) rfl rfl (by decide) rfl rfl) $$ [HS]
  · isplitr <;> iassumption
  iintro ⟨HS, Hv⟩
  rw [wp_ret]; imodintro
  rw [wp_bind, k0_part15_eq_skeleton]; unfold k0_part15_skel
  simp only [Prog.lift, Prog.bind_op, Prog.bind_ret, Prog.pure_eq_ret]
  iapply (go_pass P κ c 10 (.f 1 0) (.f 2 0) rfl rfl rfl rfl rfl rfl (Fin.ext (dev14_eq c)) rfl rfl rfl rfl) $$ [HS Hv]
  · isplitr; · iexact HK
    isplitl [HS] <;> iassumption
  iintro ⟨HS, Hv⟩
  iapply (show_f P c 1 0 (off3_eq c 1) (fun _ => rfl)) $$ [HS Hv Hout]
  · isplitl [HS]; · iexact HS
    isplitl [Hv] <;> iassumption
  iintro ⟨HS, Hout⟩
  iapply (go_recv P κ c 11 7 (.b 1 0) rfl rfl (by decide) rfl rfl) $$ [HS]
  · isplitr <;> iassumption
  iintro ⟨HS, Hv⟩
  rw [wp_ret]; imodintro
  rw [wp_bind, k0_part16_eq_skeleton]; unfold k0_part16_skel
  simp only [Prog.lift, Prog.bind_op, Prog.bind_ret, Prog.pure_eq_ret]
  iapply (go_pass P κ c 11 (.b 1 0) (.b 2 0) rfl rfl rfl rfl rfl rfl (Fin.ext (dev15_eq c)) rfl rfl rfl rfl) $$ [HS Hv]
  · isplitr; · iexact HK
    isplitl [HS] <;> iassumption
  iintro ⟨HS, Hv⟩
  iapply (show_b P c 1 0 (off4_eq c 1) (fun _ => rfl)) $$ [HS Hv Hout]
  · isplitl [HS]; · iexact HS
    isplitl [Hv] <;> iassumption
  iintro ⟨HS, Hout⟩
  iapply (go_recv P κ c 12 8 (.f 1 1) rfl rfl (by decide) rfl rfl) $$ [HS]
  · isplitr <;> iassumption
  iintro ⟨HS, Hv⟩
  rw [wp_ret]; imodintro
  rw [wp_bind, k0_part17_eq_skeleton]; unfold k0_part17_skel
  simp only [Prog.lift, Prog.bind_op, Prog.bind_ret, Prog.pure_eq_ret]
  iapply (go_pass P κ c 12 (.f 1 1) (.f 2 1) rfl rfl rfl rfl rfl rfl (Fin.ext (dev16_eq c)) rfl rfl rfl rfl) $$ [HS Hv]
  · isplitr; · iexact HK
    isplitl [HS] <;> iassumption
  iintro ⟨HS, Hv⟩
  iapply (show_f P c 1 1 (off5_eq c 1) (fun _ => rfl)) $$ [HS Hv Hout]
  · isplitl [HS]; · iexact HS
    isplitl [Hv] <;> iassumption
  iintro ⟨HS, Hout⟩
  rw [wp_ret]; imodintro
  rw [wp_bind, k0_part18_eq_skeleton]; unfold k0_part18_skel
  simp only [Prog.lift, Prog.bind_op, Prog.bind_ret, Prog.pure_eq_ret]
  iapply (go_recv P κ c 13 9 (.b 1 1) rfl rfl (by decide) rfl rfl) $$ [HS]
  · isplitr <;> iassumption
  iintro ⟨HS, Hv⟩
  iapply (go_pass P κ c 13 (.b 1 1) (.b 2 1) rfl rfl rfl rfl rfl rfl (Fin.ext (dev17_eq c)) rfl rfl rfl rfl) $$ [HS Hv]
  · isplitr; · iexact HK
    isplitl [HS] <;> iassumption
  iintro ⟨HS, Hv⟩
  iapply (show_b P c 1 1 (off6_eq c 1) (fun _ => rfl)) $$ [HS Hv Hout]
  · isplitl [HS]; · iexact HS
    isplitl [Hv] <;> iassumption
  iintro ⟨HS, Hout⟩
  rw [wp_ret]; imodintro
  rw [wp_bind, k0_part19_eq_skeleton]; unfold k0_part19_skel
  simp only [Prog.lift, Prog.bind_op, Prog.bind_ret, Prog.pure_eq_ret]
  rw [wp_ret]; imodintro
  rw [wp_bind, k0_part20_eq_skeleton]; unfold k0_part20_skel
  simp only [Prog.lift, Prog.bind_op, Prog.bind_ret, Prog.pure_eq_ret]
  iapply (go_recv P κ c 14 10 (.f 2 0) rfl rfl (by decide) rfl rfl) $$ [HS]
  · isplitr <;> iassumption
  iintro ⟨HS, Hv⟩
  iapply (go_pass P κ c 14 (.f 2 0) (.f 3 0) rfl rfl rfl rfl rfl rfl (Fin.ext (dev18_eq c)) rfl rfl rfl rfl) $$ [HS Hv]
  · isplitr; · iexact HK
    isplitl [HS] <;> iassumption
  iintro ⟨HS, Hv⟩
  iapply (show_f P c 2 0 (off3_eq c 2) (fun _ => rfl)) $$ [HS Hv Hout]
  · isplitl [HS]; · iexact HS
    isplitl [Hv] <;> iassumption
  iintro ⟨HS, Hout⟩
  rw [wp_ret]; imodintro
  rw [wp_bind, k0_part21_eq_skeleton]; unfold k0_part21_skel
  simp only [Prog.lift, Prog.bind_op, Prog.bind_ret, Prog.pure_eq_ret]
  iapply (go_recv P κ c 15 11 (.b 2 0) rfl rfl (by decide) rfl rfl) $$ [HS]
  · isplitr <;> iassumption
  iintro ⟨HS, Hv⟩
  ihave Hv := (last_b P c 0) $$ Hv
  iapply (show_b P c 2 0 (off4_eq c 2) (fun _ => rfl)) $$ [HS Hv Hout]
  · isplitl [HS]; · iexact HS
    isplitl [Hv] <;> iassumption
  iintro ⟨HS, Hout⟩
  iapply (go_recv P κ c 15 12 (.f 2 1) rfl rfl (by decide) rfl rfl) $$ [HS]
  · isplitr <;> iassumption
  iintro ⟨HS, Hv⟩
  rw [wp_ret]; imodintro
  rw [wp_bind, k0_part22_eq_skeleton]; unfold k0_part22_skel
  simp only [Prog.lift, Prog.bind_op, Prog.bind_ret, Prog.pure_eq_ret]
  iapply (go_pass P κ c 15 (.f 2 1) (.f 3 1) rfl rfl rfl rfl rfl rfl (Fin.ext (dev19_eq c)) rfl rfl rfl rfl) $$ [HS Hv]
  · isplitr; · iexact HK
    isplitl [HS] <;> iassumption
  iintro ⟨HS, Hv⟩
  iapply (show_f P c 2 1 (off5_eq c 2) (fun _ => rfl)) $$ [HS Hv Hout]
  · isplitl [HS]; · iexact HS
    isplitl [Hv] <;> iassumption
  iintro ⟨HS, Hout⟩
  rw [wp_ret]; imodintro
  rw [wp_bind, k0_part23_eq_skeleton]; unfold k0_part23_skel
  simp only [Prog.lift, Prog.bind_op, Prog.bind_ret, Prog.pure_eq_ret]
  iapply (go_recv P κ c 16 13 (.b 2 1) rfl rfl (by decide) rfl rfl) $$ [HS]
  · isplitr <;> iassumption
  iintro ⟨HS, Hv⟩
  ihave Hv := (last_b P c 1) $$ Hv
  iapply (show_b P c 2 1 (off6_eq c 2) (fun _ => rfl)) $$ [HS Hv Hout]
  · isplitl [HS]; · iexact HS
    isplitl [Hv] <;> iassumption
  iintro ⟨HS, Hout⟩
  rw [wp_ret]; imodintro
  rw [wp_bind, k0_part24_eq_skeleton]; unfold k0_part24_skel
  simp only [Prog.lift, Prog.bind_op, Prog.bind_ret, Prog.pure_eq_ret]
  iapply (go_recv P κ c 16 14 (.f 3 0) rfl rfl (by decide) rfl rfl) $$ [HS]
  · isplitr <;> iassumption
  iintro ⟨HS, Hv⟩
  ihave Hv := (last_f P c 0) $$ Hv
  iapply (show_f P c 3 0 (off3_eq c 3) (fun _ => rfl)) $$ [HS Hv Hout]
  · isplitl [HS]; · iexact HS
    isplitl [Hv] <;> iassumption
  iintro ⟨HS, Hout⟩
  iapply (go_recv P κ c 16 15 (.f 3 1) rfl rfl (by decide) rfl rfl) $$ [HS]
  · isplitr <;> iassumption
  iintro ⟨HS, Hv⟩
  ihave Hv := (far_in P c) $$ Hv
  iapply (load_slot c (Memref.whole cc0_scratch3) (r4f 3 1) (fun _ => rfl) squeezes_S1x1x256x1024_S256x1024 shapeCasts_S1x1x256x1024_S256x1024 fullShare (val P (.f 3 1) (org (.f 3 1) c))) $$ Hv
  iintro %x2 %hx2 Hv
  ihave Hv := (far_out P c) $$ Hv
  rw [wp_ret]; imodintro
  rw [wp_bind, k0_part25_eq_skeleton]; unfold k0_part25_skel
  simp only [Prog.lift, Prog.bind_op, Prog.bind_ret, Prog.pure_eq_ret]
  iapply (load_out c arg1 _ fullShare _) $$ Hout
  iintro %_ Hout
  iapply (out_step P c arg1 4 (by decide) 1 (off5_eq c 3) ((congrArg (fun v => extf .f32 v bitsLt_bf16_f32) hx2).trans (blk_f P c 3 1))) $$ Hout
  iintro Hout
  ihave HS := (go_keep P c (.got (.f 3 1))) $$ [HS Hv]
  · isplitl [HS] <;> iassumption
  ihave HS := (go_end P c) $$ HS
  iapply (end_sent P κ c 0 (.y 0) rfl rfl rfl rfl) $$ [HS]
  · isplitr <;> iassumption
  iintro HS
  iapply (end_sent P κ c 1 (.y 1) rfl rfl rfl rfl) $$ [HS]
  · isplitr <;> iassumption
  iintro HS
  iapply (end_sent P κ c 2 (.f 0 0) rfl rfl rfl rfl) $$ [HS]
  · isplitr <;> iassumption
  iintro HS
  rw [wp_ret]; imodintro
  rw [wp_bind, k0_part26_eq_skeleton]; unfold k0_part26_skel
  simp only [Prog.lift, Prog.bind_op, Prog.bind_ret, Prog.pure_eq_ret]
  iapply (end_sent P κ c 3 (.f 0 1) rfl rfl rfl rfl) $$ [HS]
  · isplitr <;> iassumption
  iintro HS
  iapply (end_sent P κ c 4 (.f 1 0) rfl rfl rfl rfl) $$ [HS]
  · isplitr <;> iassumption
  iintro HS
  iapply (end_sent P κ c 5 (.f 1 1) rfl rfl rfl rfl) $$ [HS]
  · isplitr <;> iassumption
  iintro HS
  rw [wp_ret]; imodintro
  rw [wp_bind, k0_part27_eq_skeleton]; unfold k0_part27_skel
  simp only [Prog.lift, Prog.bind_op, Prog.bind_ret, Prog.pure_eq_ret]
  iapply (end_sent P κ c 6 (.f 2 0) rfl rfl rfl rfl) $$ [HS]
  · isplitr <;> iassumption
  iintro HS
  iapply (end_sent P κ c 7 (.f 2 1) rfl rfl rfl rfl) $$ [HS]
  · isplitr <;> iassumption
  iintro HS
  iapply (end_sent P κ c 8 (.f 3 0) rfl rfl rfl rfl) $$ [HS]
  · isplitr <;> iassumption
  iintro HS
  rw [wp_ret]; imodintro
  rw [wp_bind, k0_part28_eq_skeleton]; unfold k0_part28_skel
  simp only [Prog.lift, Prog.bind_op, Prog.bind_ret, Prog.pure_eq_ret]
  iapply (end_sent P κ c 9 (.f 3 1) rfl rfl rfl rfl) $$ [HS]
  · isplitr <;> iassumption
  iintro HS
  iapply (end_sent P κ c 10 (.b 0 0) rfl rfl rfl rfl) $$ [HS]
  · isplitr <;> iassumption
  iintro HS
  iapply (end_sent P κ c 11 (.b 0 1) rfl rfl rfl rfl) $$ [HS]
  · isplitr <;> iassumption
  iintro HS
  rw [wp_ret]; imodintro
  rw [wp_bind, k0_part29_eq_skeleton]; unfold k0_part29_skel
  simp only [Prog.lift, Prog.bind_op, Prog.bind_ret, Prog.pure_eq_ret]
  iapply (end_sent P κ c 12 (.b 1 0) rfl rfl rfl rfl) $$ [HS]
  · isplitr <;> iassumption
  iintro HS
  iapply (end_sent P κ c 13 (.b 1 1) rfl rfl rfl rfl) $$ [HS]
  · isplitr <;> iassumption
  iintro HS
  iapply (end_sent P κ c 14 (.b 2 0) rfl rfl rfl rfl) $$ [HS]
  · isplitr <;> iassumption
  iintro HS
  rw [wp_ret]; imodintro
  iapply (end_sent P κ c 15 (.b 2 1) rfl rfl rfl rfl) $$ [HS]
  · isplitr <;> iassumption
  iintro HS
  ihave HS := (ending_owe P c) $$ HS
  icases HS with ⟨Ho, HS⟩
  iapply (ex_signal P κ c 0 (Fin.ext (dev20_eq c)) rfl) $$ [Ho He0 Hx0]
  · isplitr; · iexact HK
    isplitl [Ho]; · iexact Ho
    isplitl [He0] <;> iassumption
  iintro Ho
  rw [wp_ret]; imodintro
  iapply (ex_signal P κ c 1 (Fin.ext (dev21_eq c)) rfl) $$ [Ho He1 Hx1]
  · isplitr; · iexact HK
    isplitl [Ho]; · iexact Ho
    isplitl [He1] <;> iassumption
  iintro Ho
  rw [wp_ret]; imodintro
  iapply (ex_signal P κ c 2 (Fin.ext (dev22_eq c)) rfl) $$ [Ho He2 Hx2]
  · isplitr; · iexact HK
    isplitl [Ho]; · iexact Ho
    isplitl [He2] <;> iassumption
  iintro Ho
  rw [wp_ret]; imodintro
  iapply (ex_wait P κ c (l := []) (fun _ h => absurd h List.not_mem_nil) rfl) $$ [Ho Hep Hec]
  · isplitr; · iexact HK
    isplitl [Ho]; · iexact Ho
    isplitl [Hep] <;> iassumption
  iintro ⟨Ho, Hze⟩
  rw [wp_ret]; imodintro
  rw [wp_ret]; imodintro
  iapply HQ
  isplitl [Ho Hzb Hze HS]
  · iapply (finish P c)
    isplitl [Ho]; · iexact Ho
    isplitl [Hzb]; · iexact Hzb
    isplitl [Hze] <;> iassumption
  isplitl [HP]; · iexact HP
  iexact Hout

end Cert.KernelIdeal.Ring
-- ==== Proof.KernelIdeal.Bufs.lean ====
/- The kernel's five scratch buffers as the slots the protocol moves: each buffer, whole at some contents, is its slots, each
   at some contents, and back. -/
module

public import proofs.«01_k».proof.Proof.KernelIdeal.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- A squeezed memref is owned where the memref is. -/
theorem any_squeeze {s s' : Shape} (M : Memref sig .tc .vmem s .bf16) (h : s.Squeezes s') (q : PosShare TreeShare) :
    (ownsSat (c : Thread nD τ) (M.squeeze s' h) q (fun _ => True) : sProp 𝕄) = ownsSat (c : Thread nD τ) M q (fun _ => True) := by
  unfold ownsSat
  rw [Memref.set_view_squeeze]

/-- A buffer whole at some contents is the slices of a disjoint covering family of rectangles, each at some contents, and back. -/
theorem pieces (b : Ref sig .tc) {s : Shape} (M : Memref sig .tc .vmem s .bf16)
    (hM : (ownsSat (c : Thread nD τ) M fullShare (fun _ => True) : sProp 𝕄) = iprop(∃ f : Buf (Elt F) ((c : Thread nD τ).loc b), ((c : Thread nD τ).loc b) ↦{fullShare} f))
    {T : Type} [Fintype T] [DecidableEq T] (r : T → Rect s) (hr : ∀ t a, (r t).stride a = 1)
    (hd : ∀ t t', t ≠ t' → Disjoint (r t).set (r t').set) (hcov : ∀ i, ∃ t, i ∈ (r t).set) {s' : Shape} (hq : ∀ t, (r t).shape.Squeezes s') :
    (iprop(∃ f : Buf (Elt F) ((c : Thread nD τ).loc b), ((c : Thread nD τ).loc b) ↦{fullShare} f) : sProp 𝕄)
      ⊣⊢ bigSep Finset.univ fun t => ownsSat (c : Thread nD τ) ((M.slice (r t) (hr t)).squeeze s' (hq t)) fullShare (fun _ => True) := by
  have hc : (Finset.univ : Finset T).biUnion (fun t => (r t).set) = Finset.univ :=
    Finset.eq_univ_iff_forall.mpr fun i => Finset.mem_biUnion.mpr ((hcov i).imp fun t ht => ⟨Finset.mem_univ t, ht⟩)
  rw [← hM, bigSep_congr (s := Finset.univ) (Ψ := fun t => (ownsSat (c : Thread nD τ) (M.slice (r t) (hr t)) fullShare (fun _ => True) : sProp 𝕄)) fun t _ => any_squeeze c _ (hq t) fullShare]
  constructor
  · exact (ownsSat_mono (c : Thread nD τ) M fullShare fun X _ => fun t => trivial).trans
      (ownsSat_rects (c : Thread nD τ) M fullShare r hr hd hc fun _ _ => True)
  · exact (ownsSat_of_rects (c : Thread nD τ) M fullShare r hr hd hc fun _ _ => True).trans
      (ownsSat_mono (c : Thread nD τ) M fullShare fun _ _ => trivial)

/-- A whole buffer at some contents, as a memref and as a buffer. -/
theorem any_whole (b : Ref sig .tc) :
    (ownsSat (c : Thread nD τ) (Memref.whole b) fullShare (fun _ => True) : sProp 𝕄)
      = iprop(∃ f : Buf (Elt F) ((c : Thread nD τ).loc b), ((c : Thread nD τ).loc b) ↦{fullShare} f) := by
  unfold ownsSat
  simp only [Memref.view_whole, View.set_whole]
  exact BI.Entails.antisymm
    (show iprop(∃ f, ⌜True⌝ ∗ ((View.whole b).loc (c : Thread nD τ) ↦{fullShare} f)) ⊢ (iprop(∃ f : Buf (Elt F) ((c : Thread nD τ).loc b), ((c : Thread nD τ).loc b) ↦{fullShare} f) : sProp 𝕄) from by
      iintro ⟨%f, -, H⟩; iexists f; iexact H)
    (show (iprop(∃ f : Buf (Elt F) ((c : Thread nD τ).loc b), ((c : Thread nD τ).loc b) ↦{fullShare} f) : sProp 𝕄) ⊢ iprop(∃ f, ⌜True⌝ ∗ ((View.whole b).loc (c : Thread nD τ) ↦{fullShare} f)) from by
      iintro ⟨%f, H⟩; iexists f; isplitr
      · ipureintro; trivial
      · iexact H)

/-- The two chunks of a two-chunk buffer are apart -/
theorem r3_disj (t t' : Fin 2) (h : t ≠ t') : Disjoint (r3 t).set (r3 t').set :=
  Rect.disjoint_of_axis _ _ 0 fun j₁ hj₁ j₂ hj₂ e => h (Fin.ext (by
    have h1 : j₁ < 1 := hj₁
    have h2 : j₂ < 1 := hj₂
    have e' : t.val + 1 * j₁ = t'.val + 1 * j₂ := e
    omega))
/-- and fill it. -/
theorem r3_cov (i : S2x256x1024.Idx) : ∃ t : Fin 2, i ∈ (r3 t).set :=
  ⟨i 0, Rect.mem_set_unit.mpr fun a => by
    have := (i a).isLt
    match a with
    | 0 => exact ⟨le_refl _, Nat.lt_succ_self _⟩
    | 1 => exact ⟨Nat.zero_le _, by simpa using this⟩
    | 2 => exact ⟨Nat.zero_le _, by simpa using this⟩⟩

/-- The slots of the right-going ring's buffer are apart -/
theorem r4f_disj (t t' : Fin 4 × Fin 2) (h : t ≠ t') : Disjoint (r4f t.1 t.2).set (r4f t'.1 t'.2).set := by
  by_cases h0 : t.1 = t'.1
  · refine Rect.disjoint_of_axis _ _ 1 fun j₁ hj₁ j₂ hj₂ e => h (Prod.ext h0 (Fin.ext ?_))
    have h1 : j₁ < 1 := hj₁
    have h2 : j₂ < 1 := hj₂
    have e' : t.2.val + 1 * j₁ = t'.2.val + 1 * j₂ := e
    omega
  · refine Rect.disjoint_of_axis _ _ 0 fun j₁ hj₁ j₂ hj₂ e => h0 (Fin.ext ?_)
    have h1 : j₁ < 1 := hj₁
    have h2 : j₂ < 1 := hj₂
    have e' : t.1.val + 1 * j₁ = t'.1.val + 1 * j₂ := e
    omega
/-- and fill it. -/
theorem r4f_cov (i : S4x2x256x1024.Idx) : ∃ t : Fin 4 × Fin 2, i ∈ (r4f t.1 t.2).set :=
  ⟨(i 0, i 1), Rect.mem_set_unit.mpr fun a => by
    have := (i a).isLt
    match a with
    | 0 => exact ⟨le_refl _, Nat.lt_succ_self _⟩
    | 1 => exact ⟨le_refl _, Nat.lt_succ_self _⟩
    | 2 => exact ⟨Nat.zero_le _, by simpa using this⟩
    | 3 => exact ⟨Nat.zero_le _, by simpa using this⟩⟩

/-- The slots of the left-going ring's buffer are apart -/
theorem r4b_disj (t t' : Fin 3 × Fin 2) (h : t ≠ t') : Disjoint (r4b t.1 t.2).set (r4b t'.1 t'.2).set := by
  by_cases h0 : t.1 = t'.1
  · refine Rect.disjoint_of_axis _ _ 1 fun j₁ hj₁ j₂ hj₂ e => h (Prod.ext h0 (Fin.ext ?_))
    have h1 : j₁ < 1 := hj₁
    have h2 : j₂ < 1 := hj₂
    have e' : t.2.val + 1 * j₁ = t'.2.val + 1 * j₂ := e
    omega
  · refine Rect.disjoint_of_axis _ _ 0 fun j₁ hj₁ j₂ hj₂ e => h0 (Fin.ext ?_)
    have h1 : j₁ < 1 := hj₁
    have h2 : j₂ < 1 := hj₂
    have e' : t.1.val + 1 * j₁ = t'.1.val + 1 * j₂ := e
    omega
/-- and fill it. -/
theorem r4b_cov (i : S3x2x256x1024.Idx) : ∃ t : Fin 3 × Fin 2, i ∈ (r4b t.1 t.2).set :=
  ⟨(i 0, i 1), Rect.mem_set_unit.mpr fun a => by
    have := (i a).isLt
    match a with
    | 0 => exact ⟨le_refl _, Nat.lt_succ_self _⟩
    | 1 => exact ⟨le_refl _, Nat.lt_succ_self _⟩
    | 2 => exact ⟨Nat.zero_le _, by simpa using this⟩
    | 3 => exact ⟨Nat.zero_le _, by simpa using this⟩⟩

/-- A two-chunk buffer is its two chunks. -/
theorem split3 (b : Ref sig .tc) (M : Memref sig .tc .vmem S2x256x1024 .bf16)
    (hM : (ownsSat (c : Thread nD τ) M fullShare (fun _ => True) : sProp 𝕄) = iprop(∃ f : Buf (Elt F) ((c : Thread nD τ).loc b), ((c : Thread nD τ).loc b) ↦{fullShare} f)) :
    (iprop(∃ f : Buf (Elt F) ((c : Thread nD τ).loc b), ((c : Thread nD τ).loc b) ↦{fullShare} f) : sProp 𝕄)
      ⊣⊢ bigSepL [0, 1] fun ch : Fin 2 => someAt (F := F) c (slot3 M ch) fullShare := by
  rw [← bigSep_univ_eq_bigSepL [(0 : Fin 2), 1] (by decide) (by decide)]
  exact pieces c b M hM r3 (fun _ _ => rfl) r3_disj r3_cov fun _ => squeezes_S1x256x1024_S256x1024

abbrev hops4 : List (Fin 4 × Fin 2) := [(0, 0), (0, 1), (1, 0), (1, 1), (2, 0), (2, 1), (3, 0), (3, 1)]
abbrev hops3 : List (Fin 3 × Fin 2) := [(0, 0), (0, 1), (1, 0), (1, 1), (2, 0), (2, 1)]

/-- The right-going ring's buffer, at any contents, is its eight slots. -/
theorem split4f :
    (iprop(∃ f : Buf (Elt F) ((c : Thread nD τ).loc cc0_scratch3), ((c : Thread nD τ).loc cc0_scratch3) ↦{fullShare} f) : sProp 𝕄)
      ⊣⊢ bigSepL hops4 fun t => someAt (F := F) c (fM t.1 t.2) fullShare := by
  rw [← bigSep_univ_eq_bigSepL hops4 (by decide) (by decide)]
  exact pieces c cc0_scratch3 (Memref.whole cc0_scratch3) (any_whole c _) (fun t : Fin 4 × Fin 2 => r4f t.1 t.2) (fun _ _ => rfl) r4f_disj r4f_cov fun _ => squeezes_S1x1x256x1024_S256x1024
/-- The left-going ring's buffer, at any contents, is its six slots. -/
theorem split4b :
    (iprop(∃ f : Buf (Elt F) ((c : Thread nD τ).loc cc0_scratch4), ((c : Thread nD τ).loc cc0_scratch4) ↦{fullShare} f) : sProp 𝕄)
      ⊣⊢ bigSepL hops3 fun t => someAt (F := F) c (bM t.1 t.2) fullShare := by
  rw [← bigSep_univ_eq_bigSepL hops3 (by decide) (by decide)]
  exact pieces c cc0_scratch4 (Memref.whole cc0_scratch4) (any_whole c _) (fun t : Fin 3 × Fin 2 => r4b t.1 t.2) (fun _ _ => rfl) r4b_disj r4b_cov fun _ => squeezes_S1x1x256x1024_S256x1024

/-- The channels, buffer by buffer. -/
abbrev byBuf : List Ch := [0, 1].map Ch.y ++ (hops4.map (fun t => Ch.f t.1 t.2) ++ hops3.map (fun t => Ch.b t.1 t.2))
theorem byBuf_perm : byBuf.Perm allCh := by decide

/-- The slots a device has: two to send its partial product from, two for the reduced chunks, and one per channel that it
    receives on. -/
def Slots : sProp 𝕄 :=
  iprop((bigSepL [0, 1] fun ch : Fin 2 => someAt (F := F) c (ysM ch) fullShare) ∗ (bigSepL [0, 1] fun ch : Fin 2 => someAt (F := F) c (rbM ch) fullShare)
    ∗ bigSepL allCh fun k => someAt (F := F) c (dstM k) fullShare)

/-- All the receive slots, listed buffer by buffer. -/
theorem byBuf_eq : bigSepL byBuf (fun k => someAt (F := F) c (dstM k) fullShare)
    = iprop((bigSepL [0, 1] fun ch : Fin 2 => someAt (F := F) c (yrM ch) fullShare)
      ∗ (bigSepL hops4 fun t => someAt (F := F) c (fM t.1 t.2) fullShare) ∗ bigSepL hops3 fun t => someAt (F := F) c (bM t.1 t.2) fullShare) := by
  rw [bigSepL_append, bigSepL_append, bigSepL_map, bigSepL_map, bigSepL_map]
  rfl

/-- The scratch buffers at some contents are the slots at some contents, -/
theorem scratch_in : (Pipeline.scopedRest (Ix := Unit) (Name := ℕ) (U := UU) (Lvl := ℕ) (Val := Elt F) spec0 c : sProp 𝕄) ⊢ Slots (F := F) c := by
  rw [scopedRest0_eq]
  unfold Slots
  iintro ⟨H0, H1, H2, H3, H4⟩
  isplitl [H0]; · iapply (split3 c cc0_scratch0 (Memref.whole cc0_scratch0) (any_whole c _)).1; iexact H0
  isplitl [H2]; · iapply (split3 c cc0_scratch2 (Memref.whole cc0_scratch2) (any_whole c _)).1; iexact H2
  iapply (list_perm byBuf_perm _)
  iapply (Entails.of_eq (byBuf_eq (F := F) c).symm)
  isplitl [H1]; · iapply (split3 c cc0_scratch1 (Memref.whole cc0_scratch1) (any_whole c _)).1; iexact H1
  isplitl [H3]; · iapply (split4f c).1; iexact H3
  iapply (split4b c).1; iexact H4
/-- and back. -/
theorem scratch_out : Slots (F := F) c ⊢ (Pipeline.scopedRest (Ix := Unit) (Name := ℕ) (U := UU) (Lvl := ℕ) (Val := Elt F) spec0 c : sProp 𝕄) := by
  rw [scopedRest0_eq]
  unfold Slots
  iintro ⟨H0, H2, H⟩
  ihave H := (list_perm byBuf_perm.symm _) $$ H
  ihave H := (Entails.of_eq (byBuf_eq (F := F) c)) $$ H
  icases H with ⟨H1, H3, H4⟩
  isplitl [H0]; · iapply (split3 c cc0_scratch0 (Memref.whole cc0_scratch0) (any_whole c _)).2; iexact H0
  isplitl [H1]; · iapply (split3 c cc0_scratch1 (Memref.whole cc0_scratch1) (any_whole c _)).2; iexact H1
  isplitl [H2]; · iapply (split3 c cc0_scratch2 (Memref.whole cc0_scratch2) (any_whole c _)).2; iexact H2
  isplitl [H3]; · iapply (split4f c).2; iexact H3
  iapply (split4b c).2; iexact H4

/-! ## The slots at the end -/

/-- The channel on which a received chunk travels on, if it does. -/
def onward : Ch → Ch
  | .y ch => .f 0 ch
  | .f h ch => .f (h + 1) ch
  | .b h ch => .b (h + 1) ch

/-- The channels whose chunk is sent on; those whose chunk stays; those that carry a device's own. -/
def passed : List Ch := [.f 0 0, .f 0 1, .f 1 0, .f 1 1, .f 2 0, .f 2 1, .b 0 0, .b 0 1, .b 1 0, .b 1 1]
def stay : List Ch := [.y 0, .y 1, .f 3 0, .f 3 1, .b 2 0, .b 2 1]
def ownCh : List Ch := [.y 0, .y 1, .f 0 0, .f 0 1, .b 0 0, .b 0 1]
theorem passed_perm : allCh.Perm (ownCh ++ passed.map onward) := by decide
theorem stay_perm : (stay ++ passed).Perm allCh := by decide
theorem stay_full : ∀ k ∈ stay, keepShare k = fullShare := by
  intro k hk
  simp only [stay, List.mem_cons, List.not_mem_nil, or_false] at hk
  rcases hk with rfl | rfl | rfl | rfl | rfl | rfl <;> rfl
/-- Of a slot that is passed on, one half share stays and the other goes with the onward copy, which leaves from that slot. -/
theorem passed_right : ∀ k ∈ passed, keepShare k = fullShare.right ∧ qs (onward k) = fullShare.left ∧ srcM (onward k) = dstM k := by
  intro k hk
  simp only [passed, List.mem_cons, List.not_mem_nil, or_false] at hk
  rcases hk with rfl | rfl | rfl | rfl | rfl | rfl | rfl | rfl | rfl | rfl <;> exact ⟨rfl, rfl, rfl⟩

/-- Two halves are the whole, at some contents. -/
theorem join (M : Memref sig .tc .vmem S256x1024 .bf16) (X Y : S256x1024.Idx → Elt F .bf16) :
    iprop(owns (c : Thread nD τ) M fullShare.left X ∗ owns (c : Thread nD τ) M fullShare.right Y) ⊢ (someAt c M fullShare : sProp 𝕄) := by
  iintro ⟨Hl, Hr⟩
  ihave Hl := (ownsSat_intro (Φ := fun _ => True) (c : Thread nD τ) M fullShare.left trivial) $$ Hl
  ihave Hr := (ownsSat_intro (Φ := fun _ => True) (c : Thread nD τ) M fullShare.right trivial) $$ Hr
  iapply (ownsSat_halves (c : Thread nD τ) M fullShare fun _ => True).2
  isplitl [Hl]; · iexact Hl
  iexact Hr

variable (P : Dev nD → S256x2048.Idx → Elt F .f32)

/-- An assertion for each channel, channel by channel. -/
theorem ownCh_sep (Φ : Ch → sProp (MT nD τ sig Unit (Elt F) ℕ UU ℕ)) :
    bigSepL ownCh Φ ⊢ iprop(Φ (.y 0) ∗ Φ (.y 1) ∗ Φ (.f 0 0) ∗ Φ (.f 0 1) ∗ Φ (.b 0 0) ∗ Φ (.b 0 1)) := .rfl
/-- Two assertions listed are their conjunction. -/
theorem pair_sep {ι : Type} (a b : ι) (Φ : ι → sProp (MT nD τ sig Unit (Elt F) ℕ UU ℕ)) : bigSepL [a, b] Φ = iprop(Φ a ∗ Φ b) := rfl

/-- What is sent to the partner is whole again when the copy's share is back; -/
theorem join_y (ch : Fin 2) : iprop(sndPay P c (.y ch) ∗ slotOf P c (.ys ch)) ⊢ someAt (F := F) c (ysM ch) fullShare :=
  join c (ysM ch) (val P (.y ch) c) (yv P c ch)
/-- so is the reduced chunk when both copies' shares are. -/
theorem join_r (ch : Fin 2) : iprop(sndPay P c (.f 0 ch) ∗ sndPay P c (.b 0 ch)) ⊢ someAt (F := F) c (rbM ch) fullShare :=
  join c (rbM ch) (val P (.f 0 ch) c) (val P (.b 0 ch) c)

/-- The sources handed back and the slots kept are all the slots. -/
theorem gather : iprop(bigSepL allCh (sndPay P c) ∗ bigSepL ([.ys 0, .ys 1] ++ allCh.map Slot.got) (slotOf P c)) ⊢ Slots (F := F) c := by
  rw [bigSepL_append, bigSepL_map]
  iintro ⟨Hs, Hy, Hg⟩
  ihave Hs := (list_perm passed_perm _) $$ Hs
  ihave Hg := (list_perm stay_perm.symm _) $$ Hg
  ihave Hs := (Entails.of_eq (bigSepL_append _ _ _)) $$ Hs
  ihave Hg := (Entails.of_eq (bigSepL_append _ _ _)) $$ Hg
  icases Hs with ⟨Ho, Hp⟩
  icases Hg with ⟨Ht, Hq⟩
  ihave Hp := (Entails.of_eq (bigSepL_map onward passed _)) $$ Hp
  ihave Ho := (ownCh_sep _) $$ Ho
  ihave Hy := (Entails.of_eq (pair_sep _ _ _)) $$ Hy
  icases Ho with ⟨Hy0, Hy1, Hf0, Hf1, Hb0, Hb1⟩
  icases Hy with ⟨Hz0, Hz1⟩
  unfold Slots
  rw [pair_sep, pair_sep]
  isplitl [Hy0 Hy1 Hz0 Hz1]
  · isplitl [Hy0 Hz0]
    · iapply (join_y c P 0); isplitl [Hy0]; · iexact Hy0
      iexact Hz0
    · iapply (join_y c P 1); isplitl [Hy1]; · iexact Hy1
      iexact Hz1
  isplitl [Hf0 Hf1 Hb0 Hb1]
  · isplitl [Hf0 Hb0]
    · iapply (join_r c P 0); isplitl [Hf0]; · iexact Hf0
      iexact Hb0
    · iapply (join_r c P 1); isplitl [Hf1]; · iexact Hf1
      iexact Hb1
  iapply (list_perm stay_perm _)
  iapply (Entails.of_eq (bigSepL_append _ _ _).symm)
  isplitl [Ht]
  · iapply (bigSepL_mono (l := stay) (Φ := fun k => slotOf P c (.got k)) fun k hk => ?_) $$ Ht
    rw [slot_got, stay_full k hk]
    exact ownsSat_intro (Φ := fun _ => True) (c : Thread nD τ) (dstM k) fullShare trivial
  · ihave H := (list_sep passed _ _) $$ [Hp Hq]
    · isplitl [Hp]; · iexact Hp
      iexact Hq
    iapply (bigSepL_mono (l := passed) fun k hk => ?_) $$ H
    obtain ⟨h1, h2, h3⟩ := passed_right k hk
    rw [slot_got, h1]
    unfold sndPay
    rw [h2, h3]
    exact join c (dstM k) _ _

end Cert.KernelIdeal.Ring
-- ==== Proof.KernelIdeal.Deal.lean ====
/- The protocol's resources at the launch: every cell's record allocated at once, the cells of the kernel's own semaphores dormant
   until the kernel starts, and every payment's token handed to the device that makes the payment. -/
module

public import proofs.«01_k».proof.Proof.KernelIdeal.Bufs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → S256x2048.Idx → Elt F .f32)

/-! ## Cells and tokens -/

/-- The kernel's own semaphores. -/
abbrev Own : Type := Unit ⊕ (Ch ⊕ Ch)
def ownCell : Own → Cell
  | .inl _ => .ex
  | .inr (.inl k) => .snd k
  | .inr (.inr k) => .rcv k
abbrev osem (o : Own) : SemLoc sig := semOf (ownCell o)
theorem osem_facts : Pipeline.OwnSemFacts spec0 osem := by decide
abbrev ownList : List Own := .inl () :: (allCh.map (fun k => .inr (.inl k)) ++ allCh.map fun k => .inr (.inr k))
theorem mem_ownList (o : Own) : o ∈ ownList := by
  match o with
  | .inl () => exact List.mem_cons_self
  | .inr (.inl k) => exact List.mem_cons_of_mem _ (List.mem_append_left _ (List.mem_map_of_mem (mem_allCh k)))
  | .inr (.inr k) => exact List.mem_cons_of_mem _ (List.mem_append_right _ (List.mem_map_of_mem (mem_allCh k)))
/-- No semaphore is listed twice. -/
theorem ownList_nodup : ownList.Nodup := by decide
abbrev ownCodes : List Cell := .ex :: (allCh.map .snd ++ allCh.map .rcv)

/-- An assertion for each of a device's cells, the barrier's apart. -/
theorem own_list (Φ : Cell → sProp (MT nD τ sig Unit (Elt F) ℕ UU ℕ)) :
    (bigSep Finset.univ fun o : Own => Φ (ownCell o)) = bigSepL ownCodes Φ := by
  rw [bigSep_univ_eq_bigSepL ownList (Finset.ext fun o => by simp only [List.mem_toFinset, Finset.mem_univ, mem_ownList]) ownList_nodup, ← bigSepL_map]
  rfl

/-- The barrier's cell is not among a device's own. -/
theorem own_ne_bar (o : Own) : ownCell o ≠ .bar := by
  match o with
  | .inl () => decide
  | .inr (.inl k) => exact fun h => by cases h
  | .inr (.inr k) => exact fun h => by cases h

/-- The cells of all the devices -/
def cellEmb : Dev nD × Cell ↪ GSem nD τ sig :=
  ⟨fun x => cell x.1 x.2, fun _ _ h => Prod.ext (congrArg (fun g : GSem nD τ sig => g.1.1) h) (semOf_inj (congrArg Prod.snd h))⟩
/-- and their barrier cells, each with its device. -/
def barEmb : Dev nD ↪ GSem nD τ sig := ⟨fun c => cell c .bar, fun _ _ h => congrArg (fun g : GSem nD τ sig => g.1.1) h⟩
def ownEmb : Dev nD × Own ↪ GSem nD τ sig :=
  ⟨fun x => cell x.1 (ownCell x.2), fun _ _ h => Prod.ext (congrArg (fun g : GSem nD τ sig => g.1.1) h) (osem_facts.inj (congrArg Prod.snd h))⟩
abbrev barCells : Finset (GSem nD τ sig) := Finset.univ.map barEmb
abbrev ownCells : Finset (GSem nD τ sig) := Finset.univ.map ownEmb

/-- The barrier cells are apart from the others -/
theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact own_ne_bar x.2 (semOf_inj (congrArg Prod.snd h))

/-- and with them are all the cells. -/
theorem cells_eq : (barCells ∪ ownCells : Finset (GSem nD τ sig)) = Finset.univ.map cellEmb := by
  ext g
  rw [Finset.mem_union, Finset.mem_map, Finset.mem_map, Finset.mem_map]
  constructor
  · rintro (⟨c, -, rfl⟩ | ⟨x, -, rfl⟩)
    · exact ⟨(c, .bar), Finset.mem_univ _, rfl⟩
    · exact ⟨(x.1, ownCell x.2), Finset.mem_univ _, rfl⟩
  · rintro ⟨⟨c, x⟩, -, rfl⟩
    cases x with
    | bar => exact .inl ⟨c, Finset.mem_univ _, rfl⟩
    | ex => exact .inr ⟨(c, .inl ()), Finset.mem_univ _, rfl⟩
    | snd k => exact .inr ⟨(c, .inr (.inl k)), Finset.mem_univ _, rfl⟩
    | rcv k => exact .inr ⟨(c, .inr (.inr k)), Finset.mem_univ _, rfl⟩

/-- The payments to one device's cells: cell and number. -/
abbrev Tok : Type := (Fin 3 ⊕ Fin 3) ⊕ (Ch ⊕ Ch)
def tokCell : Tok → Cell
  | .inl (.inl _) => .bar
  | .inl (.inr _) => .ex
  | .inr (.inl k) => .snd k
  | .inr (.inr k) => .rcv k
/-- A token's number among its cell's. -/
def tokNo : Tok → Fin 3
  | .inl (.inl d) => d
  | .inl (.inr d) => d
  | .inr _ => 0
/-- Different tokens differ in cell or number. -/
theorem tok_inj : Function.Injective fun t : Tok => (tokCell t, tokNo t) := by
  rintro ((d | d) | (k | k)) ((d' | d') | (k' | k')) h <;> simp only [tokCell, tokNo, Prod.mk.injEq, Cell.snd.injEq, Cell.rcv.injEq, reduceCtorEq, true_and, and_true, false_and] at h <;> rw [h]
/-- All the tokens, each with its cell, round and number. -/
def toks : Finset (GSem nD τ sig × ℕ × Fin 3) :=
  Finset.univ.map ⟨fun x : Dev nD × Tok => (cell x.1 (tokCell x.2), 0, tokNo x.2), fun _ _ h =>
    Prod.ext (congrArg (fun t : GSem nD τ sig × ℕ × Fin 3 => t.1.1.1) h)
      (tok_inj (Prod.ext (semOf_inj (congrArg (fun t : GSem nD τ sig × ℕ × Fin 3 => t.1.2) h)) (congrArg (fun t : GSem nD τ sig × ℕ × Fin 3 => t.2.2) h)))⟩

/-- The tokens of the payments device `c` makes. -/
def pays (c : Dev nD) : sProp 𝕄 :=
  iprop(((bigSepL [0, 1, 2] fun d : Fin 3 => dutyTok ER (cell (nbr d c) .bar) 0 d) ∗ bigSepL [0, 1, 2] fun d : Fin 3 => dutyTok ER (cell (nbr d c) .ex) 0 d)
    ∗ (bigSepL allCh fun k => dutyTok ER (cell c (.snd k)) 0 0) ∗ bigSepL allCh fun k => dutyTok ER (cell (tgt k c) (.rcv k)) 0 0)

/-- Summing over the devices, each index's share may be handed on along its own permutation of them. -/
theorem around {T : Type} [Fintype T] [DecidableEq T] (f finv : T → Dev nD → Dev nD) (h1 : ∀ t c, f t (finv t c) = c) (h2 : ∀ t c, finv t (f t c) = c)
    (Φ : Dev nD → T → sProp (MT nD τ sig Unit (Elt F) ℕ UU ℕ)) :
    (bigSep Finset.univ fun c : Dev nD => bigSep Finset.univ fun t : T => Φ c t) = bigSep Finset.univ fun c : Dev nD => bigSep Finset.univ fun t : T => Φ (f t c) t := by
  have swap (Ψ : Dev nD → T → sProp (MT nD τ sig Unit (Elt F) ℕ UU ℕ)) :
      (bigSep Finset.univ fun c : Dev nD => bigSep Finset.univ fun t : T => Ψ c t) = bigSep Finset.univ fun t : T => bigSep Finset.univ fun c : Dev nD => Ψ c t := by
    rw [← bigSep_univ_prod (fun x : Dev nD × T => Ψ x.1 x.2), bigSep_univ_equiv (Equiv.prodComm T (Dev nD)), bigSep_univ_prod]
    rfl
  rw [swap, swap]
  exact bigSep_congr fun t _ => bigSep_univ_equiv ⟨f t, finv t, h2 t, h1 t⟩ fun c => Φ c t

/-- An assertion for each of three, listed -/
theorem three_univ (Φ : Fin 3 → sProp (MT nD τ sig Unit (Elt F) ℕ UU ℕ)) : bigSep Finset.univ Φ = bigSepL [0, 1, 2] Φ :=
  bigSep_univ_eq_bigSepL _ (by decide) (by decide) Φ
/-- or in conjunction. -/
theorem three_in (Φ : Fin 3 → sProp (MT nD τ sig Unit (Elt F) ℕ UU ℕ)) : iprop(Φ 0 ∗ Φ 1 ∗ Φ 2) ⊢ bigSepL [0, 1, 2] Φ := .rfl
theorem ch_univ (Φ : Ch → sProp (MT nD τ sig Unit (Elt F) ℕ UU ℕ)) : bigSep Finset.univ Φ = bigSepL allCh Φ :=
  bigSep_univ_eq_bigSepL _ (Finset.ext fun k => by simp only [List.mem_toFinset, Finset.mem_univ, mem_allCh]) (by decide) Φ

/-- All the tokens are those that the devices pay with. -/
theorem deal_toks : bigSep toks (fun x => (dutyTok ER x.1 x.2.1 x.2.2 : sProp 𝕄)) = bigSep Finset.univ fun c : Dev nD => pays (F := F) c := by
  unfold toks
  rw [bigSep_map, bigSep_univ_prod]
  have parts (c : Dev nD) : (bigSep Finset.univ fun t : Tok => (dutyTok ER (cell c (tokCell t)) 0 (tokNo t) : sProp 𝕄))
      = iprop(((bigSep Finset.univ fun d : Fin 3 => dutyTok ER (cell c .bar) 0 d) ∗ bigSep Finset.univ fun d : Fin 3 => dutyTok ER (cell c .ex) 0 d)
        ∗ (bigSep Finset.univ fun k : Ch => dutyTok ER (cell c (.snd k)) 0 0) ∗ bigSep Finset.univ fun k : Ch => dutyTok ER (cell c (.rcv k)) 0 0) := by
    rw [bigSep_univ_sum, bigSep_univ_sum, bigSep_univ_sum]
    rfl
  refine (bigSep_congr fun c _ => parts c).trans ?_
  unfold pays
  simp only [bigSep_sep']
  rw [around nbr inv nbr_inv inv_nbr (fun c d => (dutyTok ER (cell c .bar) 0 d : sProp 𝕄)),
    around nbr inv nbr_inv inv_nbr (fun c d => (dutyTok ER (cell c .ex) 0 d : sProp 𝕄)),
    around tgt org tgt_org org_tgt (fun c k => (dutyTok ER (cell c (.rcv k)) 0 0 : sProp 𝕄))]
  simp only [three_univ, ch_univ]

/-! ## Credits -/

/-- What each debt of a list, owed by every device, promises device `c`. -/
theorem promised (c : Dev nD) (l : List Debt) :
    (Pipeline.launchCred (fun d => owed d l) c : sProp 𝕄) ⊢ bigSepL l fun j => cred (tallyAt (cell c j.code) () j.amt) := by
  induction l with
  | nil =>
    show (Pipeline.launchCred (fun _ => 0) c : sProp 𝕄) ⊢ _
    rw [Pipeline.launchCred_zero]
    exact .rfl
  | cons j l ih =>
    show (Pipeline.launchCred (fun d => owed d l + tallyAt (j.cell d) () j.amt) c : sProp 𝕄) ⊢ _
    rw [Pipeline.launchCred_add, bigSepL_cons']
    have hj : (Pipeline.launchCred (fun d => tallyAt (j.cell d) () j.amt) c : sProp 𝕄) ⊢ cred (tallyAt (cell c j.code) () j.amt) := by
      match j with
      | .bar d => exact Pipeline.launchCred_tallyAt (semOf .bar) (nbr d) (inv d) (nbr_inv d) (inv_nbr d) () _ c
      | .ch k => exact Pipeline.launchCred_tallyAt (semOf (.rcv k)) (tgt k) (org k) (tgt_org k) (org_tgt k) () _ c
      | .ex d => exact Pipeline.launchCred_tallyAt (semOf .ex) (nbr d) (inv d) (nbr_inv d) (inv_nbr d) () _ c
    iintro ⟨Hl, Hj⟩
    isplitl [Hj]; · iapply hj; iexact Hj
    iapply ih; iexact Hl

/-- Three credits of one unit are a credit of three. -/
theorem join3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

/-- The credits device `c` waits with. -/
def creds (c : Dev nD) : sProp 𝕄 :=
  iprop(cred (tallyAt (cell c .bar) () 3) ∗ (bigSepL allCh fun k => cred (tallyAt (cell c (.rcv k)) () N)) ∗ cred (tallyAt (cell c .ex) () 3))

/-- What the others owe a device at the launch is the credit for its waits. -/
theorem creds_intro (c : Dev nD) : (Pipeline.launchCred (fun d => owed d allDebts) c : sProp 𝕄) ⊢ creds (F := F) c := by
  refine (promised c allDebts).trans ?_
  unfold allDebts creds
  rw [bigSepL_append, bigSepL_append, bigSepL_map]
  exact BIClass.sep_mono (join3 (cell c .bar)) (BIClass.sep_mono .rfl (join3 (cell c .ex)))

/-! ## What a device carries from the launch to the kernel -/

/-- The launch's share of the protocol, all of it on device 0 until it is dealt. -/
def park (c : Dev nD) : sProp 𝕄 := if c = 0 then BI.own (ER (launchOf barCells ownCells toks)) else iprop(emp)
theorem park_all : bigSep Finset.univ (park (F := F)) = BI.own (ER (launchOf barCells ownCells toks)) := by
  rw [bigSep_univ_at _ (0 : Dev nD), bigSep_congr (s := Finset.univ.erase 0) (Ψ := fun _ => (BI.emp : sProp 𝕄))
    fun c hc => by unfold park; rw [if_neg (Finset.ne_of_mem_erase hc)]; rfl, BI.bigSep_emp_const]
  unfold park
  rw [if_pos rfl]
  exact BI.equiv_iff.mp sep_emp

/-- Every cell's record, and every barrier cell open. -/
def records (κ : GSem nD τ sig → ℕ) : sProp 𝕄 :=
  iprop((bigSep Finset.univ fun x : Dev nD × Cell => cellInv ER (Rd P) (κ (cell x.1 x.2)) (cell x.1 x.2))
    ∗ bigSep Finset.univ fun c : Dev nD => reached ER (cell c .bar) 0)
/-- The records may be used again and again. -/
instance records_persistent (κ : GSem nD τ sig → ℕ) : BI.Persistent (records P κ) := by unfold records; infer_instance

/-- A device's own part: its place at its barrier cell, the right to open its other cells, its payments' tokens, its credits. -/
def part (c : Dev nD) : sProp 𝕄 :=
  iprop(atPos ER (cell c .bar) 0 ∅ 0 ∗ (bigSepL ownCodes fun x => openTok ER (cell c x)) ∗ pays (F := F) c)

/-- What a device carries to the kernel: -/
def Tk (c : Dev nD) : sProp 𝕄 := iprop(∃ κ, records P κ ∗ part (F := F) c ∗ creds (F := F) c)
/-- what stands beside its buffers before the kernel. -/
def E0 (c : Dev nD) : sProp 𝕄 := iprop(Tk P c ∗ (∃ r, prngReg c r) ∗ owe (F := F) c allDebts)

/-- The barrier semaphore is the only one that no scope holds. -/
theorem unscoped_eq : ∀ sm : SemLoc sig, sm.isScoped .tc = false → sm = semOf .bar := by decide
theorem unscopedSems0_eq (c : Dev nD) : (unscopedSems0 c : sProp 𝕄) = zero c .bar := by
  unfold unscopedSems0
  rw [show (Finset.univ.filter fun sm : SemLoc sig => ¬ sm.isScoped .tc) = {semOf .bar} from by decide, BI.bigSep_singleton]

/-- The tokens for opening the cells, device by device. -/
theorem deal_open : bigSep ownCells (fun g => (openTok ER g : sProp 𝕄)) = bigSep Finset.univ fun c : Dev nD => bigSepL ownCodes fun x => openTok ER (cell c x) := by
  rw [bigSep_map, bigSep_univ_prod]
  exact bigSep_congr fun c _ => own_list fun x => openTok ER (cell c x)

/-- What the launch deals a device, gathered. -/
theorem e0_intro (κ : GSem nD τ sig → ℕ) (c : Dev nD) (r : PrngReg) :
    iprop(records P κ ∗ (part (F := F) c ∗ owes (c : Thread nD τ) (owed c allDebts) ∅ ∗ Pipeline.launchCred (fun d => owed d allDebts) c ∗ prngReg c r)) ⊢ E0 P c := by
  unfold E0 Tk
  iintro ⟨#HR, Hp, HO, Hc, Hg⟩
  isplitl [Hp Hc]
  · iexists κ
    isplitr; · iexact HR
    isplitl [Hp]; · iexact Hp
    iapply (creds_intro c); iexact Hc
  isplitl [Hg]; · iexists r; iexact Hg
  unfold owe
  iexists ∅; iexact HO

/-- The launch deals every device its part. -/
theorem deal (ρ : Dev nD → PrngReg) :
    iprop((bigSep Finset.univ fun c : Dev nD => iprop(unscopedSems0 c ∗ owes (c : Thread nD τ) (owed c allDebts) ∅
        ∗ Pipeline.launchCred (fun d => owed d allDebts) c ∗ prngReg c (ρ c) ∗ park (F := F) c)) ∗ levAts L lv)
      ⊢ (|={Set.univ}=> bigSep Finset.univ (E0 P) : sProp 𝕄) := by
  have hv : (bigSep Finset.univ fun c : Dev nD => (unscopedSems0 c : sProp 𝕄)) = bigSep barCells fun g => semVal g 0 := by
    rw [bigSep_map]
    exact bigSep_congr fun c _ => unscopedSems0_eq c
  rw [bigSep_sep', bigSep_sep', bigSep_sep', bigSep_sep', hv, park_all]
  iintro ⟨⟨Hv, HO, Hc, Hg, Hu⟩, -⟩
  imod (Rounds.fund_launch ER (Rd P) disjoint_cells (fun g _ h => h) toks) $$ [Hv Hu] with ⟨%κ, -, #Hinv, #Hr, Hat, Hopen, Htok⟩
  · isplitl [Hv]; · iexact Hv
    iexact Hu
  imodintro
  ihave #Hinv' := (Entails.of_eq (show bigSep (barCells ∪ ownCells) (fun g => (cellInv ER (Rd P) (κ g) g : sProp 𝕄))
    = bigSep Finset.univ fun x : Dev nD × Cell => cellInv ER (Rd P) (κ (cell x.1 x.2)) (cell x.1 x.2) from by rw [cells_eq, bigSep_map]; rfl)) $$ Hinv
  ihave #Hr' := (Entails.of_eq (bigSep_map (s := Finset.univ) barEmb (Φ := fun g : GSem nD τ sig => (reached ER g 0 : sProp 𝕄)))) $$ Hr
  ihave Hat := (Entails.of_eq (bigSep_map (s := Finset.univ) barEmb (Φ := fun g : GSem nD τ sig => (atPos ER g 0 ∅ 0 : sProp 𝕄)))) $$ Hat
  ihave Hopen := (Entails.of_eq (deal_open (F := F))) $$ Hopen
  ihave Htok := (Entails.of_eq (deal_toks (F := F))) $$ Htok
  iapply (bigSep_with_persistent (R := records P κ) (Φ := fun c => iprop(part (F := F) c ∗ owes (c : Thread nD τ) (owed c allDebts) ∅
    ∗ Pipeline.launchCred (fun d => owed d allDebts) c ∗ prngReg c (ρ c))) fun c _ => e0_intro P κ c (ρ c))
  isplitr
  · unfold records
    isplitr; · iexact Hinv'
    iexact Hr'
  unfold part
  iapply (Entails.of_eq (bigSep_sep' ..).symm)
  isplitl [Hat Hopen Htok]
  · iapply (Entails.of_eq (bigSep_sep' ..).symm); isplitl [Hat]; · iexact Hat
    iapply (Entails.of_eq (bigSep_sep' ..).symm); isplitl [Hopen]; · iexact Hopen
    iexact Htok
  iapply (Entails.of_eq (bigSep_sep' ..).symm); isplitl [HO]; · iexact HO
  iapply (Entails.of_eq (bigSep_sep' ..).symm); isplitl [Hc]; · iexact Hc
  iexact Hg

/-! ## Into the kernel and out of it -/

/-- A list of dormant cells opened with their counters. -/
theorem open_all (κ : GSem nD τ sig → ℕ) (c : Dev nD) (l : List Cell) :
    iprop(Know P κ ∗ (bigSepL l fun x => openTok ER (cell c x)) ∗ bigSepL l (zero c))
      ⊢ (|={Set.univ}=> bigSepL l fun x => iprop(atPos ER (cell c x) 0 ∅ 0 ∗ reached ER (cell c x) 0) : sProp 𝕄) := by
  induction l with
  | nil => iintro -; imodintro; iempintro
  | cons x l ih =>
    simp only [bigSepL_cons']
    iintro ⟨#HK, ⟨Ho, Ho'⟩, Hz, Hz'⟩
    ihave #HI := (know_inv P κ c x) $$ HK
    imod (Rounds.cell_open ER (Rd P) (g := cell c x) (Set.mem_univ (κ (cell c x)))) $$ [Ho Hz] with ⟨Hat, Hr⟩
    · isplitr; · iexact HI
      isplitl [Ho]; · iexact Ho
      iexact Hz
    imod ih $$ [Ho' Hz'] with H
    · isplitr; · iexact HK
      isplitl [Ho']; · iexact Ho'
      iexact Hz'
    imodintro
    isplitl [Hat Hr]
    · isplitl [Hat]; · iexact Hat
      iexact Hr
    iexact H

/-- What the kernel starts with, the scratch buffers and the debts apart. -/
def Entry (c : Dev nD) : sProp 𝕄 :=
  iprop((bigSepL ownCodes fun x => iprop(atPos ER (cell c x) 0 ∅ 0 ∗ reached ER (cell c x) 0)) ∗ atPos ER (cell c .bar) 0 ∅ 0
    ∗ (bigSepL [0, 1, 2] fun d : Fin 3 => reached ER (cell (nbr d c) .bar) 0) ∗ pays (F := F) c ∗ creds (F := F) c)
/-- The same, with what is known of all the cells. -/
def Xk (c : Dev nD) : sProp 𝕄 := iprop(∃ κ, Know P κ ∗ Entry (F := F) c)
/-- What the kernel leaves of them. -/
def Yk (c : Dev nD) : sProp 𝕄 := zero c .bar

/-- A device's own semaphores at zero, cell by cell. -/
theorem own_zero (c : Dev nD) : (Pipeline.ownSems0 osem c : sProp 𝕄) = bigSepL ownCodes (zero c) :=
  own_list fun x => semVal (cell c x) 0

/-- Of all the barrier cells, one device's is at its start. -/
theorem bar_at (c : Dev nD) : (bigSep Finset.univ fun c : Dev nD => (reached ER (cell c .bar) 0 : sProp 𝕄)) ⊢ reached ER (cell c .bar) 0 :=
  bigSep_elim (Φ := fun c : Dev nD => (reached ER (cell c .bar) 0 : sProp 𝕄)) (Finset.mem_univ c)

/-- What a device was dealt, its own semaphores at zero and the levels make up its entry. -/
theorem hopen (c : Dev nD) : iprop(Tk P c ∗ Pipeline.ownSems0 osem c ∗ levAts L lv) ⊢ (|={Set.univ}=> Xk P c : sProp 𝕄) := by
  rw [own_zero]
  unfold Tk Xk
  iintro ⟨⟨%κ, #HR, Hp, Hc⟩, Hz, #Hl⟩
  unfold records part
  icases HR with ⟨#HI, #Hb⟩
  icases Hp with ⟨Hat, Ho, Hpay⟩
  ihave #Hb0 := (bar_at (F := F) (nbr 0 c)) $$ Hb
  ihave #Hb1 := (bar_at (F := F) (nbr 1 c)) $$ Hb
  ihave #Hb2 := (bar_at (F := F) (nbr 2 c)) $$ Hb
  imod (open_all P κ c ownCodes) $$ [Ho Hz] with H
  · isplitr
    · unfold Know; isplitr; · iexact HI
      iexact Hl
    isplitl [Ho]; · iexact Ho
    iexact Hz
  imodintro
  iexists κ
  isplitr
  · unfold Know; isplitr; · iexact HI
    iexact Hl
  unfold Entry
  isplitl [H]; · iexact H
  isplitl [Hat]; · iexact Hat
  isplitr
  · iapply (three_in _)
    isplitr; · iexact Hb0
    isplitr; · iexact Hb1
    iexact Hb2
  isplitl [Hpay]; · iexact Hpay
  iexact Hc

/-- Over a list, what is for all of two assertions is each for all. -/
theorem list_unsep {ι : Type} (l : List ι) (Φ Ψ : ι → sProp (MT nD τ sig Unit (Elt F) ℕ UU ℕ)) :
    (bigSepL l fun i => iprop(Φ i ∗ Ψ i)) ⊢ iprop(bigSepL l Φ ∗ bigSepL l Ψ) := by
  induction l with
  | nil => exact (Laws.sep_emp).2
  | cons a l ih =>
    simp only [bigSepL_cons']
    iintro ⟨⟨Ha, Hb⟩, H⟩
    ihave H := ih $$ H
    icases H with ⟨H1, H2⟩
    isplitl [Ha H1]
    · isplitl [Ha]; · iexact Ha
      iexact H1
    isplitl [Hb]; · iexact Hb
    iexact H2

/-- A device's receive slots, free, and its cells, open, grouped by the neighbour that is told so. -/
theorem tell (c : Dev nD) (d : Fin 3) :
    iprop((bigSepL (chans d) fun k => iprop(someAt (F := F) c (dstM k) fullShare ∗ reached ER (cell c (.rcv k)) 0)) ∗ reached ER (cell c .ex) 0)
      ⊢ barPay (F := F) (nbr d c) d := by
  unfold barPay
  rw [inv_nbr, bigSep_eq_bigSepL_of_eq _ (chans_set d) (chans_nodup d)]

/-- The cells' part of a device's entry. -/
theorem entry_cells (c : Dev nD) :
    (bigSepL ownCodes fun x => iprop(atPos ER (cell c x) 0 ∅ 0 ∗ reached ER (cell c x) 0) : sProp 𝕄)
      ⊢ iprop((atPos ER (cell c .ex) 0 ∅ 0 ∗ reached ER (cell c .ex) 0)
        ∗ (bigSepL allCh fun k => iprop(atPos ER (cell c (.snd k)) 0 ∅ 0 ∗ reached ER (cell c (.snd k)) 0))
        ∗ bigSepL allCh fun k => iprop(atPos ER (cell c (.rcv k)) 0 ∅ 0 ∗ reached ER (cell c (.rcv k)) 0)) := by
  unfold ownCodes
  rw [bigSepL_cons', bigSepL_append, bigSepL_map, bigSepL_map]

/-- The receive slots a device has, as the room that it grants its neighbours. -/
theorem slots_tell (c : Dev nD) :
    iprop((bigSepL allCh fun k => someAt (F := F) c (dstM k) fullShare) ∗ (bigSepL allCh fun k => reached ER (cell c (.rcv k)) 0) ∗ reached ER (cell c .ex) 0)
      ⊢ iprop(barPay (F := F) (nbr 0 c) 0 ∗ barPay (F := F) (nbr 1 c) 1 ∗ barPay (F := F) (nbr 2 c) 2) := by
  iintro ⟨Hs, Hr, #Hx⟩
  ihave H := (list_sep allCh _ _) $$ [Hs Hr]
  · isplitl [Hs]; · iexact Hs
    iexact Hr
  ihave H := (list_perm chans_all.symm _) $$ H
  ihave H := (Entails.of_eq (bigSepL_append _ _ _)) $$ H
  icases H with ⟨H2, H⟩
  ihave H := (Entails.of_eq (bigSepL_append _ _ _)) $$ H
  icases H with ⟨H0, H1⟩
  isplitl [H0]
  · iapply (tell c 0); isplitl [H0]; · iexact H0
    iexact Hx
  isplitl [H1]
  · iapply (tell c 1); isplitl [H1]; · iexact H1
    iexact Hx
  iapply (tell c 2); isplitl [H2]; · iexact H2
  iexact Hx

/-- With its scratch buffers a device has all that the kernel starts with. -/
theorem start_intro (c : Dev nD) : iprop(Entry (F := F) c ∗ Slots (F := F) c ∗ owe (F := F) c allDebts) ⊢ Start (F := F) c := by
  unfold Entry Slots Start pays creds
  rw [pair_sep, pair_sep]
  iintro ⟨⟨Hcells, Hbar, Hnb, ⟨⟨Htb, Hte⟩, Hts, Htr⟩, Hcb, Hcr, Hce⟩, ⟨⟨Hy0, Hy1⟩, ⟨Hr0, Hr1⟩, Hd⟩, Ho⟩
  ihave Hcells := (entry_cells c) $$ Hcells
  icases Hcells with ⟨⟨Hex, #Hexr⟩, Hsnd, Hrcv⟩
  ihave Hrcv := (list_unsep allCh _ _) $$ Hrcv
  icases Hrcv with ⟨Hra, Hrr⟩
  ihave Hpay := (slots_tell c) $$ [Hd Hrr]
  · isplitl [Hd]; · iexact Hd
    isplitl [Hrr]; · iexact Hrr
    iexact Hexr
  icases Hpay with ⟨Hp0, Hp1, Hp2⟩
  isplitl [Ho]; · iexact Ho
  isplitl [Hsnd Hts Htr]
  · ihave H := (list_sep allCh _ _) $$ [Hts Htr]
    · isplitl [Hts]; · iexact Hts
      iexact Htr
    ihave H := (list_sep allCh _ _) $$ [Hsnd H]
    · isplitl [Hsnd]; · iexact Hsnd
      iexact H
    iapply (bigSepL_mono fun k _ => ?_) $$ H
    unfold sndIdle
    iintro ⟨⟨H1, H2⟩, H3, H4⟩
    isplitl [H1]; · iexact H1
    isplitl [H2]; · iexact H2
    isplitl [H3]; · iexact H3
    iexact H4
  isplitl [Hra Hcr]
  · iapply (list_sep allCh _ _)
    isplitl [Hra]; · iexact Hra
    iexact Hcr
  isplitl [Hbar Hcb]
  · isplitl [Hbar]; · iexact Hbar
    iexact Hcb
  isplitl [Hex Hce]
  · isplitl [Hex]; · iexact Hex
    iexact Hce
  isplitl [Htb Hp0 Hp1 Hp2 Hnb]
  · iapply (list_sep [0, 1, 2] _ _)
    isplitl [Htb]; · iexact Htb
    iapply (list_sep [0, 1, 2] _ _)
    isplitl [Hp0 Hp1 Hp2]
    · iapply (three_in _)
      isplitl [Hp0]; · iexact Hp0
      isplitl [Hp1]; · iexact Hp1
      iexact Hp2
    iexact Hnb
  isplitl [Hte]; · iexact Hte
  isplitl [Hy0]; · iexact Hy0
  isplitl [Hy1]; · iexact Hy1
  isplitl [Hr0]; · iexact Hr0
  iexact Hr1

/-- All cells drained are the kernel's own and the barrier's. -/
theorem zeros (c : Dev nD) : bigSepL allCells (zero (F := F) c) ⊢ iprop(zero c .bar ∗ (Pipeline.ownSems0 osem c : sProp 𝕄)) := by
  rw [own_zero]
  unfold allCells ownCodes
  rw [bigSepL_cons']

end Cert.KernelIdeal.Ring
-- ==== Proof.KernelIdeal.Run.lean ====
/- The whole program of device `c`: its host stretches, the kernel, and what every execution on the sixteen devices leaves. -/
module

public import proofs.«01_k».proof.Proof.KernelIdeal.Deal
public import proofs.«01_k».proof.Proof.Gen.KernelIdeal.Regions
public import Idealize.ShloMosaic.Lib.Pipeline.RegionTalk
public import Idealize.ShloMosaic.Lib.Pipeline.ValueKit.Geometry

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ UU ℕ

variable (m : (ℓ : Loc nD τ sig) → Buf (Elt F) ℓ) (ρ : Dev nD → PrngReg)

/-- A device's partial product, as its host code leaves it for the kernel. -/
def parts (c : Dev nD) : S256x2048.Idx → Elt F .f32 := V3 m c main_v17
/-- What every region leaves: the gathered rows. -/
def outs : Outs (F := F) := fun _ r c => if h : r = main_v18 then h ▸ (G (parts m) c : S2048x2048.Idx → Elt F .f32) else fun _ => Classical.arbitrary _

/-! ## The kernel region -/

/-- The kernel's proof data: it enters with its launch part and its scratch buffers, and leaves with its cells drained. -/
def dat (c : Dev nD) : Dat τ (Elt F) Unit ℕ UU ℕ cfg0 c where
  A w := V3 m c (Proc.devRef .tc (Pipeline.arrRef spec0 w))
  after w _ := match w with
    | 0 => parts m c
    | 1 => G (parts m) c
    | ⟨_ + 2, h⟩ => absurd h (Nat.not_lt.2 (Nat.le_add_left _ _))
  Φ t := if t.val = 0 then iprop(Xk (parts m) c ∗ Slots (F := F) c ∗ ∃ r, prngReg c r)
    else iprop(Yk (F := F) c ∗ Pipeline.ownSems0 osem c ∗ Slots (F := F) c ∗ ∃ r, prngReg c r)
  q _ := fullShare
  owed t := if t.val = 0 then owed c allDebts else 0

/-- A device owes everything before the kernel's one grid point, -/
theorem owed_first (c : Dev nD) : (dat m c).owed 0 = owed c allDebts := by
  show (if ((0 : Fin (cfg0.N + 1)).val = 0) then owed c allDebts else 0) = _; exact if_pos rfl
/-- up to that point, -/
theorem owed_point (c : Dev nD) : (dat m c).owed (t0_0 : Fin cfg0.N).castSucc = owed c allDebts := by
  show (if ((t0_0 : Fin cfg0.N).castSucc : Fin (cfg0.N + 1)).val = 0 then owed c allDebts else 0) = _; exact if_pos rfl
/-- and nothing after it -/
theorem owed_after (c : Dev nD) : (dat m c).owed (t0_0 : Fin cfg0.N).succ = 0 := by
  show (if ((t0_0 : Fin cfg0.N).succ : Fin (cfg0.N + 1)).val = 0 then owed c allDebts else 0) = _; exact if_neg (by decide)
/-- or at the end. -/
theorem owed_last (c : Dev nD) : (dat m c).owed (Fin.last _) = 0 := by
  show (if (Fin.last cfg0.N).val = 0 then owed c allDebts else 0) = 0
  rw [Fin.val_last, if_neg (by rw [show cfg0.N = 1 from N_0]; decide)]

/-- What a device owes at a grid point, from its list of debts, -/
theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0, show (dat m c).recorded t = Set.univ from rfl]
  iintro HO
  iexists W
  isplitr
  · ipureintro; exact fun _ _ => Or.inl trivial
  iexact HO
/-- and back. -/
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩
  iexists W
  iexact HO

/-- All sixteen blocks written is the whole output written. -/
theorem out_all (P : Dev nD → S256x2048.Idx → Elt F .f32) (c : Dev nD) (X : S2048x2048.Idx → Elt F .f32) (h : Out P c allBlocks X) : X = G P c :=
  funext fun i => h i ((by decide : ∀ (r : Fin 8) (ch : Fin 2), (r.val, ch) ∈ allBlocks) ⟨rel c i, Nat.mod_lt _ (by decide)⟩ (chunkOf i))

/-- The kernel's input block is the whole partial product. -/
theorem whole_in (c : Dev nD) (d : S256x2048.Idx → Elt F .f32) : (dat m c).before (0 : Fin 2) t0_0 d = parts m c := by
  unfold Dat.before
  rw [if_pos (fetch0_0 t0_0)]
  refine Eq.trans (b := fun y => V3 m c main_v17 (((win0_0.rect t0_0).emb y))) rfl ?_
  funext y
  refine congrArg (V3 m c main_v17) ?_
  funext a
  refine Fin.ext ?_
  rw [Pipeline.Window.rect_emb_val_of_index_zero _ _ _ rfl]

/-- The body does what the pipeline asks of it at its grid point. -/
theorem body_ok (c : Dev nD) : BodyObligation (dat m c) defs₀ 𝒱₀ () Set.univ := fun t => by
  obtain rfl := fin_N0 t
  rw [bigSep_W0, bigSep_W0]
  rw [show (dat m c).Φ (t0_0 : Fin cfg0.N).castSucc = iprop(Xk (parts m) c ∗ Slots (F := F) c ∗ ∃ r, prngReg c r) from rfl,
    show (dat m c).Φ (t0_0 : Fin cfg0.N).succ = iprop(Yk (F := F) c ∗ Pipeline.ownSems0 osem c ∗ Slots (F := F) c ∗ ∃ r, prngReg c r) from rfl]
  unfold Xk
  iintro ⟨⟨⟨%κ, #HK, He⟩, Hs, Hp⟩, HO, ⟨%d0, H0⟩, ⟨%d1, H1⟩⟩
  ihave HO := (owesAt_elim m c _ (owed c allDebts) (owed_point m c)) $$ HO
  ihave Hst := (start_intro (F := F) c) $$ [He Hs HO]
  · isplitl [He]; · iexact He
    isplitl [Hs]; · iexact Hs
    unfold owe; iexact HO
  ihave H0 := (Entails.of_eq (congrArg (owns (c : Thread nD τ) (st0_0 t0_0) fullShare) (whole_in m c d0))) $$ H0
  ihave H1 := (ownsSat_intro (Φ := fun _ => True) (c : Thread nD τ) (st0_1 t0_0) fullShare trivial) $$ H1
  iapply (body_wp (parts m) κ c (st0_0 t0_0) (hstage0_0 0) (st0_1 t0_0) (hstage0_1 0)) $$ [Hst H0 H1] [Hp]
  · isplitr; · iexact HK
    isplitl [Hst]; · iexact Hst
    isplitl [H0]; · iexact H0
    iexact H1
  iintro ⟨Hd, H0, H1⟩
  unfold Done
  icases Hd with ⟨HO, Hz, Hs⟩
  ihave Hz := (zeros c) $$ Hz
  icases Hz with ⟨Hb, Hz⟩
  ihave Hs := (gather c (parts m)) $$ Hs
  ihave H1 := (ownsSat_mono (Ψ := fun X => X = G (parts m) c) (c : Thread nD τ) (st0_1 t0_0) fullShare (out_all (parts m) c)) $$ H1
  isplitl [Hb Hz Hs Hp]
  · isplitl [Hb]; · unfold Yk; iexact Hb
    isplitl [Hz]; · iexact Hz
    isplitl [Hs]; · iexact Hs
    iexact Hp
  unfold owe
  icases HO with ⟨%W, HO⟩
  ihave HO := (owesAt_intro m c _ (owed c []) (owed_after m c) W) $$ HO
  isplitl [HO]; · iexact HO
  isplitl [H0]
  · iapply (Entails.of_eq (show (owns (c : Thread nD τ) (st0_0 t0_0) fullShare (parts m c) : sProp 𝕄) = _ from rfl)); iexact H0
  ihave H1 := (Entails.of_eq (ownsSat_eq_owns (c : Thread nD τ) (st0_1 t0_0) fullShare (X := G (parts m) c) fun _ => Iff.rfl)) $$ H1
  iapply (Entails.of_eq (show (owns (c : Thread nD τ) (st0_1 t0_0) fullShare (G (parts m) c) : sProp 𝕄) = _ from rfl)); iexact H1

/-! ## The region's record -/

/-- The proof data of the program's one region. -/
def pdats : (p : Fin 1) → (c : Dev nD) → Dat τ (Elt F) Unit ℕ UU ℕ (Pipeline.pin (pcfgs (F := F)) adm p) c
  | 0 => dat m

/-- The semaphores of the windows' own copies are none of the protocol's. -/
theorem stage_code : ∀ (w : Fin 2) (s : Fin ((win0 w).nbuf)), codeOf (.dma ((win0 w).sem s)) = none := by decide

/-- What the kernel owes is above the waits of its staging copies. -/
theorem cut : Pipeline.LevelCutOwed (pcfgs (F := F)) adm (pdats m) () L lv 0 (fun _ => 0) where
  hι c w s := by rw [L_tc]; exact Finset.mem_singleton_self _
  hιb c w s := by
    show (codeOf (.dma ((win0 w).sem s))).elim 0 lvOf ≤ 0
    rw [stage_code]; exact Nat.le_refl 0
  hD c t g i h := by
    have e : (pdats m 0 c).owed t = if t.val = 0 then owed c allDebts else 0 := rfl
    rw [e] at h
    split at h
    · obtain ⟨j, hj, rfl⟩ := owed_pos h
      unfold Debt.cell
      rw [L_tc, lv_cell]
      exact ⟨Finset.mem_singleton_self _, (by decide : ∀ j ∈ allDebts, 0 < lvOf j.code) j hj⟩
    · exact absurd h (Nat.lt_irrefl 0)

/-- The result array ends with the gathered sums. -/
theorem outs_v18 (c : Dev nD) : V4 m (outs m) c main_v18 = (G (parts m) c : S2048x2048.Idx → Elt F .f32) := by
  rw [V4, Function.update_self]
  rfl

/-- After the kernel its output array holds the gathered rows. -/
theorem arr_out (c : Dev nD) : (dat m c).arrAt (1 : Fin 2) cfg0.N = (G (parts m) c : S2048x2048.Idx → Elt F .f32) :=
  (dat m c).arrAt_eq_of_after_last (1 : Fin 2) t0_0 (by decide +kernel) _ fun j => rfl

/-- Each window's array ends as the program's values after the call say. -/
theorem arr_end (c : Dev nD) (w : Fin 2) : (dat m c).arrAt w cfg0.N = V4 m (outs m) c (Proc.devRef .tc (Pipeline.arrRef spec0 w)) := by
  match w with
  | 0 => exact ((dat m c).arrAt_in (0 : Fin 2) rfl _).trans (V4_of m (outs m) c main_v17 (by decide)).symm
  | 1 => exact (arr_out m c).trans (outs_v18 m c).symm

/-- The buffers the kernel has no window on. -/
abbrev restRefs : Finset (DevRef τ sig) := Pipeline.ucRefs τ sig \ Pipeline.arrRefs (τ := τ) spec0

/-- The call changes no other array. -/
theorem rest_same (c : Dev nD) (b : DevRef τ sig) (hb : b ∈ restRefs) : V4 m (outs m) c b = V3 m c b :=
  Function.update_of_ne (fun h => (Finset.mem_sdiff.mp hb).2 (by rw [h]; decide)) _ _

/-- What a device has beside the windows is the body's state at its start, -/
theorem region_in (c : Dev nD) :
    iprop(Pipeline.scopedRest spec0 c ∗ (∃ r, prngReg c r) ∗ StableHlo.held (c.tc : Thread nD τ) (∅ : Finset (DevRef τ sig)) (V3 m c) ∗ Xk (parts m) c)
      ⊢ ((dat m c).Φ 0 : sProp 𝕄) := by
  rw [show (dat m c).Φ 0 = iprop(Xk (parts m) c ∗ Slots (F := F) c ∗ ∃ r, prngReg c r) from rfl]
  iintro ⟨Hs, Hp, -, HX⟩
  ihave Hs := (scratch_in (F := F) c) $$ Hs
  isplitl [HX]; · iexact HX
  isplitl [Hs]; · iexact Hs
  iexact Hp

/-- and its state at the end is what it leaves beside them. -/
theorem region_out (c : Dev nD) :
    ((dat m c).Φ (Fin.last cfg0.N) : sProp 𝕄)
      ⊢ iprop(Pipeline.scopedRest spec0 c ∗ (∃ r, prngReg c r) ∗ StableHlo.held (c.tc : Thread nD τ) (∅ : Finset (DevRef τ sig)) (V4 m (outs m) c)
        ∗ Pipeline.ownSems0 osem c ∗ Yk (F := F) c) := by
  rw [show (dat m c).Φ (Fin.last cfg0.N) = iprop(Yk (F := F) c ∗ Pipeline.ownSems0 osem c ∗ Slots (F := F) c ∗ ∃ r, prngReg c r) from rfl]
  iintro ⟨HY, Hz, Hs, Hp⟩
  ihave Hs := (scratch_out (F := F) c) $$ Hs
  isplitl [Hs]; · iexact Hs
  isplitl [Hp]; · iexact Hp
  isplitr
  · unfold StableHlo.held
    iapply (Entails.of_eq (BI.bigSep_empty (Φ := fun b : DevRef τ sig => (((c : Thread nD τ).1, b) ↦{fullShare} V4 m (outs m) c b : sProp 𝕄))).symm)
    iempintro
  isplitl [Hz]; · iexact Hz
  iexact HY

/-- Both windows hold their arrays whole. -/
theorem share_full (c : Dev nD) (w : Fin 2) : (dat m c).share w = fullShare := by
  match w with
  | 0 => rfl
  | 1 => rfl

set_option backward.isDefEq.respectTransparency.types false in
/-- The kernel as a region of the program: entered with what the launch dealt it, left with its barrier counter at zero. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ restRefs (Finset.empty_subset _) launch0.toP rfl (fun c => (body_ok m c).loose)
    (fun _ => 0) (fun c => owed c allDebts) (fun c => (owed_first m c).trans (zero_add _).symm) (owed_last m) (fun _ => rfl) (share_full m)
    (V3 m) (V4 m (outs m)) (fun c b hb => rest_same m c b (Finset.mem_sdiff.mp hb).1)
    (Tk (parts m)) Yk (Xk (parts m)) Yk (hopen (parts m)) (region_in m) (region_out m)
    (fun c => by iintro H; imodintro; iexact H)
    (fun _ => 0) (cut m) (fun _ => iprop(emp))
    (fun _ _ => rfl) (arr_end m)

/-- The windows' arrays are among the program's. -/
theorem arr_sub : Pipeline.arrRefs (τ := τ) spec0 ⊆ Pipeline.ucRefs τ sig :=
  Pipeline.arrRefs_sub_ucRefs spec0 (by decide)

/-- What stands beside a device's buffers before the kernel and after it. -/
def E (i : Fin 2) (c : Dev nD) : sProp 𝕄 :=
  if i = 0 then E0 (parts m) c else iprop(Yk (F := F) c ∗ ∃ W, owes (c : Thread nD τ) (0 : CellTallies nD τ sig Unit) W)

/-- What the host code leaves is what the call starts from, -/
theorem region_pre (c : Dev nD) : iprop(StableHlo.held (c : Thread nD τ) (Pipeline.ucRefs τ sig) (V3 m c) ∗ E m 0 c) ⊢ (region m).pre c := by
  show _ ⊢ iprop(StableHlo.held (c.tc : Thread nD τ) (Pipeline.arrRefs (τ := τ) spec0) (V3 m c) ∗ (∃ r, prngReg c r)
    ∗ (StableHlo.held (c.tc : Thread nD τ) restRefs (V3 m c) ∗ emp) ∗ Tk (parts m) c ∗ ∃ Wd, owes (c : Thread nD τ) (0 + owed c allDebts) Wd)
  rw [zero_add, StableHlo.held_sub_split (c : Thread nD τ) arr_sub (V3 m c), show E m 0 c = E0 (parts m) c from if_pos rfl]
  unfold E0 owe
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- and what the call leaves is what the program ends with. -/
theorem region_post (c : Dev nD) : (region m).post c ⊢ iprop(StableHlo.held (c : Thread nD τ) (Pipeline.ucRefs τ sig) (V4 m (outs m) c) ∗ E m 1 c) := by
  show iprop(StableHlo.held (c.tc : Thread nD τ) (Pipeline.arrRefs (τ := τ) spec0) (V4 m (outs m) c) ∗ (∃ r, prngReg c r)
    ∗ (StableHlo.held (c.tc : Thread nD τ) restRefs (V4 m (outs m) c) ∗ emp) ∗ Yk (F := F) c ∗ ∃ Wd, owes (c : Thread nD τ) (0 : CellTallies nD τ sig Unit) Wd) ⊢ _
  rw [StableHlo.held_sub_split (c : Thread nD τ) arr_sub (V4 m (outs m) c),
    show E m 1 c = iprop(Yk (F := F) c ∗ ∃ W, owes (c : Thread nD τ) (0 : CellTallies nD τ sig Unit) W) from if_neg (by decide)]
  iintro ⟨Ha, -, ⟨Hr, -⟩, HY⟩
  isplitr [HY]
  · isplitl [Ha]; · iexact Ha
    iexact Hr
  iexact HY

/-! ## The whole run -/

/-- The library's state at launch: the pipeline's cells and the kernel's. -/
def u₀ : UU := (initOf (Pipeline.cells cfgs cellOf_inj) (Pipeline.launchToks cfgs cellOf_inj), launchOf barCells ownCells toks)

/-- The library's state at launch is the pipeline's part and each device's. -/
theorem u₀_split : (ownU u₀ : sProp 𝕄) ⊢ (|={Set.univ}=> iprop(BI.own (EP (initOf (Pipeline.cells cfgs cellOf_inj) (Pipeline.launchToks cfgs cellOf_inj))) ∗ bigSep Finset.univ (park (F := F))) : sProp 𝕄) := by
  rw [park_all]
  unfold u₀
  iintro Hu
  ihave H := (ownU_pair _ _) $$ Hu
  icases H with ⟨HP, HX⟩
  imodintro
  isplitl [HP]; · iexact HP
  iexact HX

/-- The result is among the program's arrays. -/
theorem v18_mem : (Proc.devRef (τ := τ) (sig := sig) .tc main_v18) ∈ Pipeline.ucRefs τ sig := Finset.mem_filter.mpr ⟨StableHlo.devRef_mem_tcRefs main_v18, by decide⟩
theorem arg0_mem : (Proc.devRef (τ := τ) (sig := sig) .tc main_arg0) ∈ Pipeline.ucRefs τ sig := Finset.mem_filter.mpr ⟨StableHlo.devRef_mem_tcRefs main_arg0, by decide⟩
theorem arg1_mem : (Proc.devRef (τ := τ) (sig := sig) .tc main_arg1) ∈ Pipeline.ucRefs τ sig := Finset.mem_filter.mpr ⟨StableHlo.devRef_mem_tcRefs main_arg1, by decide⟩

/-- The launch gives every device its buffers and what it carries to the kernel. -/
theorem launch_in :
    iprop((bigSep Finset.univ fun c : Dev nD => iprop(unscopedBufs c (fun b => m ((c.tc : Thread nD τ).loc b)) ∗ unscopedSems0 c
        ∗ owes (c.tc : Thread nD τ) (owed c allDebts) ∅ ∗ Pipeline.launchCred (fun d => owed d allDebts) c ∗ prngReg c (ρ c) ∗ park (F := F) c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hE : (fun c : Dev nD => E m 0 c) = E0 (parts m) := funext fun c => if_pos rfl
  have hB : (fun c : Dev nD => (unscopedBufs c (fun b => m ((c.tc : Thread nD τ).loc b)) : sProp 𝕄)) = fun c : Dev nD => StableHlo.held (c.tc : Thread nD τ) (Pipeline.ucRefs τ sig) (V0 m c) :=
    funext fun c => Pipeline.unscopedBufs_held c (V0 m c)
  rw [bigSep_sep' Finset.univ (fun c : Dev nD => StableHlo.held (c.tc : Thread nD τ) (Pipeline.ucRefs τ sig) (V0 m c)) fun c => E m 0 c, hE, ← hB,
    bigSep_sep' Finset.univ (fun c : Dev nD => (unscopedBufs c (fun b => m ((c.tc : Thread nD τ).loc b)) : sProp 𝕄))]
  iintro ⟨⟨Hb, Hr⟩, Hl⟩
  imod (deal (parts m) ρ) $$ [Hr Hl] with HE
  · isplitl [Hr]; · iexact Hr
    iexact Hl
  imodintro
  isplitl [Hb]; · iexact Hb
  iexact HE

/-- What the last state of a device says of memory and of its barrier counter. -/
theorem read_end (c : Dev nD) (s' : Phys nD τ sig (Elt F)) :
    iprop((StableHlo.held (c : Thread nD τ) (Pipeline.ucRefs τ sig) (V4 m (outs m) c) ∗ Yk (F := F) c) ∗ SI s')
      ⊢ (|={Set.univ}=> iprop(⌜(s'.mem.mem ((c.tc : Thread nD τ).loc main_v18) = V4 m (outs m) c main_v18
        ∧ s'.mem.mem ((c.tc : Thread nD τ).loc main_arg0) = V4 m (outs m) c main_arg0
        ∧ s'.mem.mem ((c.tc : Thread nD τ).loc main_arg1) = V4 m (outs m) c main_arg1) ∧ s'.mem.sem (cell c .bar) = 0⌝ ∗ SI s') : sProp 𝕄) := by
  unfold StableHlo.held Yk zero
  iintro ⟨⟨Hh, Hb⟩, HSI⟩
  icombine HSI Hb gives %hb
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    exact ⟨⟨h _ v18_mem, h _ arg0_mem, h _ arg1_mem⟩, by simpa using hb⟩
  iexact HSI

set_option backward.isDefEq.respectTransparency.types false in
/-- From any memory with the counters at zero every weakly fair execution ends; in every final state each device's result is the
    gathered rows, its arguments are as at the start, and every counter of the machine is at zero. -/
theorem run [∀ e, Nonempty (Elt F e)] : θ_run defs (onTc (τ := τ) (main (F := F))) ⟨m, fun _ => 0, ρ⟩
    (fun r => (∀ c : Dev nD, r.2.mem ((c.tc : Thread nD τ).loc main_v18) = (G (parts m) c : S2048x2048.Idx → Elt F .f32)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main
    (fun c => segs m 𝒱₀ L lv (E m) () (pdats m) (region m) c)
    (hmain := fun c Q => by
      rewrite [main_chain c, Seg.run_eq_chain, show (segs m 𝒱₀ L lv (E m) () (pdats m) (region m) c).map Seg.prog = [StableHlo.seq (hostOps0 c), StableHlo.seq hostOps0_1, StableHlo.seq hostOps0_2, Prog.lift (.customCall (Pipeline.entry 0) ())] from rfl]
      dsimp (config := {failIfUnchanged := false}) only
      exact .rfl)
    (hnd := fun c => by simp only [segs, Seg.pipes_host, Seg.pipes_region, Seg.pipes_nil]; decide)
    (O₀ := fun c => owed c allDebts) (hL := L_of_ne) (G := park) (u₀ := u₀) (hu₀ := u₀_split)
    (T₀ := fun c => iprop(StableHlo.held (c : Thread nD τ) (Pipeline.ucRefs τ sig) (V0 m c) ∗ E m 0 c))
    (Tₙ := fun c => iprop(StableHlo.held (c : Thread nD τ) (Pipeline.ucRefs τ sig) (V4 m (outs m) c) ∗ Yk (F := F) c))
    (hch := fun c => ⟨.rfl, .rfl, .rfl, region_pre m c, (region_post m c).trans (by
      rw [show E m 1 c = iprop(Yk (F := F) c ∗ ∃ W, owes (c : Thread nD τ) (0 : CellTallies nD τ sig Unit) W) from if_neg (by decide)]
      iintro ⟨Hh, HY, HO⟩
      isplitr [HO]
      · isplitl [Hh]; · iexact Hh
        iexact HY
      iexact HO)⟩)
    (hinit := launch_in m ρ)
    (QY := fun c s => (s.mem ((c.tc : Thread nD τ).loc main_v18) = V4 m (outs m) c main_v18
        ∧ s.mem ((c.tc : Thread nD τ).loc main_arg0) = V4 m (outs m) c main_arg0
        ∧ s.mem ((c.tc : Thread nD τ).loc main_arg1) = V4 m (outs m) c main_arg1) ∧ s.sem (cell c .bar) = 0)
    (hfin := fun c s' => read_end m c s')
    (hQ := fun s h hs => ⟨fun c => by
        obtain ⟨⟨hv, h0, h1⟩, -⟩ := h c
        exact ⟨hv.trans (outs_v18 m c), h0.trans (V4_main_arg0 m (outs m) c), h1.trans (V4_main_arg1 m (outs m) c)⟩,
      sem_eq_zero hs fun c sm hsm => by
        obtain rfl := unscoped_eq sm hsm
        exact (h c).2⟩)

end Cert.KernelIdeal.Ring
-- ==== Proof.Host.lean ====
/- What a device's host code hands the kernel: its rows of the first argument times the second, transposed. -/
module

public import proofs.«01_k».proof.Proof.KernelIdeal.Run
public import Idealize.ShloMosaic.Lib.DynamicIndex
public import Idealize.ShloMosaic.Lib.MatmulPlain
public import Idealize.ShloMosaic.Lib.ValueIdx
public import Idealize.ShloMosaic.Lib.StableHlo.Run

@[expose] public section

noncomputable section

namespace Cert.KernelIdeal.Ring

open Cert.KernelIdeal Cert.KernelIdeal.Gen
open Idealize.ShloMosaic
open Idealize.ShloMosaic.TcCoe
open Idealize.ShloMosaic.StableHlo
open Idealize.ShloMosaic.ValueIdx

section Words
variable {F : FTy → Type} [FloatOps F] (m : (ℓ : Loc nD τ sig) → Buf (Elt F) ℓ)

/-- A device's coordinates on the first and the last axis of the mesh, as words; -/
def row (c : Dev nD) : IVec S_ 32 := Host.remui (Host.divui (constantI S_ 32 (Dev.word c)) (constantI S_ 32 8#32)) (constantI S_ 32 2#32)
def col (c : Dev nD) : IVec S_ 32 := Host.remui (Host.divui (constantI S_ 32 (Dev.word c)) (constantI S_ 32 1#32)) (constantI S_ 32 4#32)
/-- its ring position, -/
def ring (c : Dev nD) : IVec S_ 32 := select (cmpi .eq (row c) (constantI S_ 32 0#32)) (col c) (subi (constantI S_ 32 7#32) (col c))
/-- and the first of its rows. -/
def first (c : Dev nD) : IVec S_ 32 :=
  select (cmpi .slt (muli (ring c) (constantI S_ 32 256#32)) (constantI S_ 32 0#32))
    (addi (muli (ring c) (constantI S_ 32 256#32)) (constantI S_ 32 2048#32)) (muli (ring c) (constantI S_ 32 256#32))

theorem first_val (c : Dev nD) (i : S_.Idx) : (first c i).toInt = ((pos c * 256 : ℕ) : Int) := by
  have key : ∀ c : Dev nD, (first c (Shape.Idx.first h_S_)).toInt = ((pos c * 256 : ℕ) : Int) := by decide +kernel
  exact key c

theorem v9_eq (c : Dev nD) : V1 m c main_v9 = (cmpi .eq (row c) (constantI S_ 32 0#32) : (⟨S_, .i1⟩ : BufTy).Contents (Elt F)) := by
  after_results
  rfl
theorem v8_eq (c : Dev nD) : V1 m c main_v8 = (col c : (⟨S_, .i32⟩ : BufTy).Contents (Elt F)) := by
  after_results
  rfl
theorem v10_eq (c : Dev nD) : V1 m c main_v10 = (subi (constantI S_ 32 7#32) (col c) : (⟨S_, .i32⟩ : BufTy).Contents (Elt F)) := by
  after_results
  rfl
/-- The second stretch of host code, from any buffers. -/
theorem second (W : Valuation τ sig (Elt F)) : StableHlo.after hostOps0_1 W main_v11
    = (select (W main_v9 : (⟨S_, .i1⟩ : BufTy).Contents (Elt F)) (W main_v8 : (⟨S_, .i32⟩ : BufTy).Contents (Elt F)) (W main_v10) : (⟨S_, .i32⟩ : BufTy).Contents (Elt F)) := by
  after_results
  rfl
theorem v11_eq (c : Dev nD) : V2 m c main_v11 = (ring c : (⟨S_, .i32⟩ : BufTy).Contents (Elt F)) := by
  rw [show V2 m c main_v11 = _ from second (V1 m c), v9_eq, v8_eq, v10_eq]
  rfl
theorem args_same (c : Dev nD) : V2 m c main_arg0 = m ((c.tc : Thread nD τ).loc main_arg0) ∧ V2 m c main_arg1 = m ((c.tc : Thread nD τ).loc main_arg1) :=
  ⟨(V2_of m c main_arg0 (by decide)).trans (V1_of m c main_arg0 (by decide)), (V2_of m c main_arg1 (by decide)).trans (V1_of m c main_arg1 (by decide))⟩

/-- A device's rows of the first argument. -/
def rowsOf (c : Dev nD) (x : S2048x8192.Idx → Elt F .bf16) : S256x8192.Idx → Elt F .bf16 :=
  Host.dynamicSlice S256x8192 x (fun k : Fin 2 => ((![first c, constantI S_ 32 0#32] : Fin 2 → IVec S_ 32) k (Shape.Idx.first h_S_)).toInt) sliceFits_S2048x8192_S256x8192

/-- The last stretch of host code, from buffers that hold the ring position. -/
theorem last (c : Dev nD) (W : Valuation τ sig (Elt F)) (h : W main_v11 = (ring c : (⟨S_, .i32⟩ : BufTy).Contents (Elt F))) :
    StableHlo.after hostOps0_2 W main_v17 = (Host.dotGeneral dot_S256x8192_S2048x8192_S256x2048_1_1_0_0_n_n none
      (rowsOf c (W main_arg0)) (W main_arg1 : S2048x8192.Idx → Elt F .bf16) : S256x2048.Idx → Elt F .f32) := by
  after_results
  refine congrArg (fun x => Host.dotGeneral dot_S256x8192_S2048x8192_S256x2048_1_1_0_0_n_n none x _) ?_
  unfold rowsOf
  refine congrArg (fun st => Host.dynamicSlice S256x8192 _ st _) (funext fun k => ?_)
  match k with
  | 0 => unfold first; rw [← h]; rfl
  | 1 => rfl

theorem parts_eq (c : Dev nD) : parts m c = Host.dotGeneral dot_S256x8192_S2048x8192_S256x2048_1_1_0_0_n_n none
    (rowsOf c (m ((c.tc : Thread nD τ).loc main_arg0))) (m ((c.tc : Thread nD τ).loc main_arg1) : S2048x8192.Idx → Elt F .bf16) := by
  rw [← (args_same m c).1, ← (args_same m c).2]
  exact last c (V2 m c) (v11_eq m c)

/-- The offset of a device's rows among all of them. -/
def rowsAt (c : Dev nD) : Fin 2 → ℕ := ![pos c * 256, 0]
theorem rowsAt_fits (c : Dev nD) : S2048x8192.Slices (rowsAt c) S256x8192 := by revert c; decide

theorem rowsOf_apply (c : Dev nD) (x : S2048x8192.Idx → Elt F .bf16) (i : S256x8192.Idx) (j : S2048x8192.Idx)
    (h0 : (j 0).val = pos c * 256 + (i 0).val) (h1 : (j 1).val = (i 1).val) : rowsOf c x i = x j := by
  unfold rowsOf
  rw [Host.dynamicSlice_eq_extractStridedSlice S256x8192 x _ (rowsAt c) sliceFits_S2048x8192_S256x8192 (rowsAt_fits c) fun k => by
    match k with
    | 0 => exact first_val c _
    | 1 => rfl]
  refine congrArg x (funext fun a => Fin.ext ?_)
  match a with
  | 0 => exact h0.symm
  | 1 => exact (Nat.zero_add _).trans h1.symm

end Words

section Sums
variable (m : (ℓ : Loc nD τ sig) → Buf (Elt Ideal) ℓ)

/-- The first of a device's two arguments, at the ideal values. -/
def lhs (c : Dev nD) : S2048x8192.Idx → EReal := m ((c.tc : Thread nD τ).loc main_arg0)
/-- The second of them. -/
def rhs (c : Dev nD) : S2048x8192.Idx → EReal := m ((c.tc : Thread nD τ).loc main_arg1)

/-- An entry of a device's partial product is the sum of the products along its columns. -/
theorem parts_apply (c : Dev nD) (r : Fin 256) (j : Fin 2048) (r' : Fin 2048) (hr : r'.val = pos c * 256 + r.val) :
    parts m c (ix2 r j) = ∑ k : Fin 8192, lhs m c (ix2 r' k) * rhs m c (ix2 j k) := by
  rw [parts_eq]
  change FloatOps.dotGeneral (DotDims.transposedRhs 256 8192 2048) none _ _ _ (ix2 r j) = _
  rw [Ideal.dotGeneral_apply]
  have h := Ideal.matmul_transposedRhs_apply (φ₁ := .bf16) (φ₂ := .bf16) none (rowsOf (F := Ideal) c (m ((c.tc : Thread nD τ).loc main_arg0))) (m ((c.tc : Thread nD τ).loc main_arg1)) (fun _ => (0 : EReal)) r j
  rw [Ideal.matmul_apply, zero_add, zero_add] at h
  refine h.trans (Finset.sum_congr rfl fun k _ => ?_)
  rw [rowsOf_apply (F := Ideal) c _ (ix2 r k) (ix2 r' k) hr rfl]
  rfl

end Sums

end Cert.KernelIdeal.Ring
-- ==== Proof.Value.lean ====
/-
  The kernel's result and the reference's, at the ideal values, from the same arrays: each is, at a row and a column, the
  sum over the first half of the contracted columns plus the sum over the second.
-/
module

public import proofs.«01_k».proof.Proof.Host
public import proofs.«01_k».proof.Proof.Gen.ReferenceIdeal.Run
public import Idealize.ShloMosaic.Lib.Layout
public import Idealize.ShloMosaic.Lib.Pipeline.ValueKit.Geometry
public import Idealize.ShloMosaic.Lib.StackMember
public import Idealize.ShloMosaic.Lib.ValueLayout

@[expose] public section

noncomputable section

namespace Cert.KernelIdeal.Ring

open Cert.KernelIdeal Cert.KernelIdeal.Gen
open Idealize.ShloMosaic
open Idealize.ShloMosaic.TcCoe
open Idealize.ShloMosaic.ValueIdx

/-- The shape of a whole argument, and the numbers in one. -/
abbrev Wide : Shape := ⟨2, ![2048, 16384]⟩

/-- An element's row and column in the result. -/
def rowOf (i : S2048x2048.Idx) : Fin 2048 := i 0
def colOf (i : S2048x2048.Idx) : Fin 2048 := i 1

section Halves
variable (A B : Wide.Idx → EReal)

/-- Column `k` of half `y`. -/
def inHalf (y : ℕ) (k : Fin 8192) : Fin 16384 := ⟨y % 2 * 8192 + k.val, by omega⟩

/-- Row `i` of the first array times row `j` of the second, over half `y` of the columns. -/
def half (y : ℕ) (i j : Fin 2048) : EReal := ∑ k : Fin 8192, A (ix2 i (inHalf y k)) * B (ix2 j (inHalf y k))

/-- Over all the columns it is the sum of the two halves. -/
theorem sum_halves (i j : Fin 2048) :
    ∑ k : Fin 16384, A (ix2 i k) * B (ix2 j k) = half A B 0 i j + half A B 1 i j := by
  rw [show (∑ k : Fin 16384, A (ix2 i k) * B (ix2 j k)) = ∑ k : Fin (8192 + 8192), A (ix2 i k) * B (ix2 j k) from rfl,
    Fin.sum_univ_add]
  refine congrArg₂ _ (Finset.sum_congr rfl fun k _ => ?_) (Finset.sum_congr rfl fun k _ => ?_)
  · rw [show (Fin.castAdd 8192 k : Fin 16384) = inHalf 0 k from Fin.ext (by simp [inHalf])]
  · rw [show (Fin.natAdd 8192 k : Fin 16384) = inHalf 1 k from Fin.ext (by simp [inHalf, Nat.add_comm])]

/-- The two halves in either order. -/
theorem halves_comm (y : ℕ) (hy : y < 2) (i j : Fin 2048) :
    half A B y i j + half A B (1 - y) i j = half A B 0 i j + half A B 1 i j := by
  obtain rfl | rfl : y = 0 ∨ y = 1 := by omega
  · rfl
  · exact add_comm _ _

/-- Device `c`'s block of a whole argument is the half of its columns that its side of the mesh names. -/
theorem block_at (c : Dev nD) (i : Fin 2048) (k : Fin 8192) :
    (Layout.blockN ⟨2, ![2048, 8192]⟩ Wide (Layout.meshBlock [2, 2, 4] ![[], [1]] c) A) (ix2 i k) = A (ix2 i (inHalf (side c) k)) := by
  have hs : Layout.meshLin [2, 2, 4] c.val [1] = side c % 2 := by revert c; decide
  rw [Layout.blockN_apply]
  refine congrArg A (funext fun a => Fin.ext ?_)
  rw [Layout.TilesN.idx_val, Layout.meshBlock_val]
  match a with
  | 0 => exact (congrArg (· + _) (Nat.zero_mul _)).trans (Nat.zero_add _)
  | 1 => exact congrArg (· * 8192 + k.val) hs

end Halves

section Kernel
variable (m : (ℓ : Loc nD τ sig) → Buf (Elt Ideal) ℓ) (A B : Wide.Idx → EReal)

/-- The hypothesis on the two programs' arguments: each device has its blocks of the whole arrays. -/
def Blocks : Prop :=
  ∀ c : Dev nD, lhs m c = Layout.blockN ⟨2, ![2048, 8192]⟩ Wide (Layout.meshBlock [2, 2, 4] ![[], [1]] c) A
    ∧ rhs m c = Layout.blockN ⟨2, ![2048, 8192]⟩ Wide (Layout.meshBlock [2, 2, 4] ![[], [1]] c) B

variable {m A B}

/-- A device's partial product, at its rows, is the half of the whole product that its side has. -/
theorem parts_half (h : Blocks m A B) (c : Dev nD) (r : Fin 256) (i j : Fin 2048) (hi : i.val = pos c * 256 + r.val) :
    parts m c (ix2 r j) = half A B (side c) i j := by
  rw [parts_apply m c r j i hi, (h c).1, (h c).2]
  exact Finset.sum_congr rfl fun k _ => by rw [block_at, block_at]

/-- The place in a partial product of an element of a block of the result. -/
theorem rP_inBlk (i : S2048x2048.Idx) :
    (rP (chunkOf i)).emb (inBlk i) = ix2 ⟨(rowOf i).val % 256, Nat.mod_lt _ (by decide)⟩ (colOf i) := by
  refine funext fun a => Fin.ext ?_
  rw [ValueKit.rect_emb_unit_val]
  match a with
  | 0 => exact Nat.zero_add _
  | 1 => exact Nat.div_add_mod' (colOf i).val 1024

/-- The sum of a device's and its partner's partial products is the whole product, at the rows of their position. -/
theorem red_whole (h : Blocks m A B) (c : Dev nD) (i : S2048x2048.Idx) (hc : pos c = (rowOf i).val / 256) :
    red (parts m) c (chunkOf i) (inBlk i) = half A B 0 (rowOf i) (colOf i) + half A B 1 (rowOf i) (colOf i) := by
  have hi : (rowOf i).val = pos c * 256 + (rowOf i).val % 256 := by rw [hc]; exact (Nat.div_add_mod' _ _).symm
  show parts m c ((rP (chunkOf i)).emb (inBlk i)) + parts m (oth c) ((rP (chunkOf i)).emb (inBlk i)) = _
  rw [rP_inBlk, parts_half h c _ (rowOf i) (colOf i) hi, parts_half h (oth c) _ (rowOf i) (colOf i) (by rw [pos_oth]; exact hi), side_oth]
  exact halves_comm A B (side c) (side_lt c) _ _

/-- The device whose sum an element of the result is, is at the ring position of the element's rows. -/
theorem pos_rel : ∀ (c : Dev nD) (b : Fin 8), pos (at' (pos c + (b.val + 8 - pos c) % 8) (side c)) = b.val := by decide

/-- Every device's result is the whole product. -/
theorem G_whole (h : Blocks m A B) (c : Dev nD) (i : S2048x2048.Idx) :
    G (parts m) c i = half A B 0 (rowOf i) (colOf i) + half A B 1 (rowOf i) (colOf i) := by
  have hb : (rowOf i).val / 256 < 8 := by omega
  have hp := pos_rel c ⟨_, hb⟩
  show Gblk (parts m) c (rel c i) (chunkOf i) (inBlk i) = _
  unfold Gblk
  split
  · next h0 =>
    refine red_whole h c i ?_
    change pos (at' (pos c + rel c i) (side c)) = _ at hp
    rw [h0, Nat.add_zero, at_pos_side] at hp
    exact hp
  · exact red_whole h _ i hp

end Kernel

section Reference
open Cert.ReferenceIdeal (S16384x2048 dot_S2048x16384_S16384x2048_S2048x2048_1_0_0_1_n_n)
open Cert.ReferenceIdeal.Facts₀ (transposes_S2048x16384_S16384x2048_1_0)

/-- The reference's result is the whole product. -/
theorem ref_whole (A B : FVec Ideal Wide .bf16) (i : S2048x2048.Idx) :
    extf .f32 (truncf .bf16 (Host.dotGeneral dot_S2048x16384_S16384x2048_S2048x2048_1_0_0_1_n_n none A
        (transpose S16384x2048 [1, 0] B transposes_S2048x16384_S16384x2048_1_0) : FVec Ideal S2048x2048 .f32)
        Gen.bitsLt_bf16_f32) Gen.bitsLt_bf16_f32 i
      = half A B 0 (rowOf i) (colOf i) + half A B 1 (rowOf i) (colOf i) := by
  rw [extf_apply, truncf_apply, ← sum_halves]
  refine (congrArg _ (eq_ix2 i)).trans ((StackMember.dotGeneral_plain_apply none A _ (rowOf i) (colOf i)).trans
    (Finset.sum_congr rfl fun k _ => ?_))
  exact congrArg (A (ix2 (rowOf i) k) * ·) (transpose_ix2_apply B _ k (colOf i))

end Reference

end Cert.KernelIdeal.Ring
-- ==== Proof.lean ====
/- The five claims, each from its program's run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel ends, its arguments unchanged and its counters at zero; -/
theorem frame_kernel : Cert.quiescent_Kernel := fun m g _ =>
  (θ_run Cert.Kernel.defs _ _).mono (fun _ h => ⟨fun c => (h.1 c).2, h.2⟩) (Cert.Kernel.Ring.run (F := Bits) m g)

/-- so does its idealization; -/
theorem frame_ideal : Cert.quiescent_KernelIdeal := fun m g _ =>
  (θ_run Cert.KernelIdeal.defs _ _).mono (fun _ h => ⟨fun c => (h.1 c).2, h.2⟩) (Cert.KernelIdeal.Ring.run (F := Ideal) m g)

/-- and so does the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is the reference's. -/
theorem value : Cert.algebraic_KernelIdeal_ReferenceIdeal := by
  intro m g m' g' _ hm
  refine ⟨_, (θ_run Cert.KernelIdeal.defs _ _).mono (fun r h c => ⟨(h.1 c).1.trans ?_, (h.1 c).2⟩)
    (Cert.KernelIdeal.Ring.run (F := Ideal) m g),
    (θ_run Cert.ReferenceIdeal.defs _ _).mono (fun r h => h 0) (Cert.ReferenceIdeal.Value.run (F := Ideal) m' g')⟩
  funext i
  exact (Cert.KernelIdeal.Ring.G_whole (A := m' ((Thread.loc (0 : Dev Cert.ReferenceIdeal.nD).tc Cert.ReferenceIdeal.main_arg0)))
    (B := m' ((Thread.loc (0 : Dev Cert.ReferenceIdeal.nD).tc Cert.ReferenceIdeal.main_arg1))) hm c i).trans
    (Cert.KernelIdeal.Ring.ref_whole _ _ i).symm

theorem claim : Cert.Claim :=
  ⟨Cert.Kernel.Gen.facts, Cert.KernelIdeal.Gen.facts, Cert.ReferenceIdeal.Gen.facts,
    frame_kernel, frame_ideal, frame_reference, trivial, value⟩

end Cert.Proof

end
